-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_below_infinity [hPre_scores_below_infinity : Cert.Pre_scores_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_scores_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_below_infinity [hPre_scores_below_infinity : Cert.Pre_scores_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_below_infinity [hKernelIdeal : Cert.KernelIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_below_infinity [hReferenceIdeal : Cert.ReferenceIdeal.Facts] [hPre_scores_below_infinity : Cert.Pre_scores_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scores_below_infinity [hKernelIdeal : Cert.KernelIdeal.Facts] [hReferenceIdeal : Cert.ReferenceIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scores_below_infinity : Cert.Pre_scores_below_infinity.Facts),
    quiescent_Kernel (hKernel := hKernel)
    ∧ quiescent_KernelIdeal (hKernelIdeal := hKernelIdeal)
    ∧ quiescent_KernelIdeal_pre_scores_below_infinity (hKernelIdeal := hKernelIdeal) (hPre_scores_below_infinity := hPre_scores_below_infinity)
    ∧ quiescent_ReferenceIdeal (hReferenceIdeal := hReferenceIdeal)
    ∧ quiescent_ReferenceIdeal_pre_scores_below_infinity (hReferenceIdeal := hReferenceIdeal) (hPre_scores_below_infinity := hPre_scores_below_infinity)
    ∧ preserves_Kernel_KernelIdeal
    ∧ algebraic_KernelIdeal_ReferenceIdeal_pre_scores_below_infinity (hKernelIdeal := hKernelIdeal) (hReferenceIdeal := hReferenceIdeal) (hPre_scores_below_infinity := hPre_scores_below_infinity)
-- ==== Pre_scores_below_infinity.lean ====
abbrev S1x5000x4 : Shape := ⟨3, ![1, 5000, 4]⟩
abbrev S1x5000x80 : Shape := ⟨3, ![1, 5000, 80]⟩
abbrev S_ : Shape := ⟨0, ![]⟩

class Facts : Prop where
  bcast_S_S1x5000x80 : S_.BroadcastsInDim S1x5000x80 (![] : Fin 0 → Fin S1x5000x80.rank)
  reducesTo_S1x5000x80_S_d0_1_2 : S1x5000x80.ReducesTo [0, 1, 2] S_
  h_S_ : 0 < S_.numel

variable [Facts]

def fn {F : FTy → Type} [FloatOps F] (main_arg0 : FVec F S1x5000x4 .f32) (main_arg1 : FVec F S1x5000x80 .f32) : IVec S_ 1 :=
  let main_cst : FVec F S_ .f32 := constant S_ .f32 0x7F800000#32
  let main_v0 : FVec F S1x5000x80 .f32 := broadcastInDim S1x5000x80 ![] bcast_S_S1x5000x80 main_cst
  let main_v1 : IVec S1x5000x80 1 := cmpf .olt main_arg1 main_v0
  let main_c : IVec S_ 1 := constantI S_ 1 1#1
  let main_v2 : IVec S_ 1 := (fun x v => Host.reduce IntOp.andi x v reducesTo_S1x5000x80_S_d0_1_2 h_S_) main_v1 main_c
  main_v2
-- ==== Kernel.lean ====
abbrev S1x5000x4 : Shape := ⟨3, ![1, 5000, 4]⟩
abbrev S1x5000x80 : Shape := ⟨3, ![1, 5000, 80]⟩
abbrev S5000x4 : Shape := ⟨2, ![5000, 4]⟩
abbrev S4x5000 : Shape := ⟨2, ![4, 5000]⟩
abbrev S_ : Shape := ⟨0, ![]⟩
abbrev S8x5120 : Shape := ⟨2, ![8, 5120]⟩
abbrev S5120x8 : Shape := ⟨2, ![5120, 8]⟩
abbrev S5000x80 : Shape := ⟨2, ![5000, 80]⟩
abbrev S80x5000 : Shape := ⟨2, ![80, 5000]⟩
abbrev S80x5120 : Shape := ⟨2, ![80, 5120]⟩
abbrev S5120x640 : Shape := ⟨2, ![5120, 640]⟩
abbrev S128x8 : Shape := ⟨2, ![128, 8]⟩
abbrev S128x640 : Shape := ⟨2, ![128, 640]⟩
abbrev S1x5120 : Shape := ⟨2, ![1, 5120]⟩
abbrev S128x1 : Shape := ⟨2, ![128, 1]⟩
abbrev S128x5120 : Shape := ⟨2, ![128, 5120]⟩
abbrev S80 : Shape := ⟨1, ![80]⟩
abbrev S80x1 : Shape := ⟨2, ![80, 1]⟩
abbrev S80x640 : Shape := ⟨2, ![80, 640]⟩

abbrev nBuf : Space → Nat
  | .hbm => 21
  | .vmem => 9
  | .smem => 0
  | _ => 0

abbrev bufTy : (tb : Table) → Fin (tcTables nBuf tb) → BufTy
  | .hbm, ⟨0, _⟩ => ⟨S1x5000x4, .f32⟩
  | .hbm, ⟨1, _⟩ => ⟨S1x5000x80, .f32⟩
  | .hbm, ⟨2, _⟩ => ⟨S5000x4, .f32⟩
  | .hbm, ⟨3, _⟩ => ⟨S4x5000, .f32⟩
  | .hbm, ⟨4, _⟩ => ⟨S_, .i32⟩
  | .hbm, ⟨5, _⟩ => ⟨S_, .f32⟩
  | .hbm, ⟨6, _⟩ => ⟨S8x5120, .f32⟩
  | .hbm, ⟨7, _⟩ => ⟨S5000x4, .f32⟩
  | .hbm, ⟨8, _⟩ => ⟨S_, .i32⟩
  | .hbm, ⟨9, _⟩ => ⟨S_, .f32⟩
  | .hbm, ⟨10, _⟩ => ⟨S5120x8, .f32⟩
  | .hbm, ⟨11, _⟩ => ⟨S5000x80, .f32⟩
  | .hbm, ⟨12, _⟩ => ⟨S80x5000, .f32⟩
  | .hbm, ⟨13, _⟩ => ⟨S_, .i32⟩
  | .hbm, ⟨14, _⟩ => ⟨S_, .f32⟩
  | .hbm, ⟨15, _⟩ => ⟨S80x5120, .f32⟩
  | .hbm, ⟨16, _⟩ => ⟨S5120x640, .f32⟩
  | .hbm, ⟨17, _⟩ => ⟨S80x5120, .f32⟩
  | .hbm, ⟨18, _⟩ => ⟨S80x5000, .f32⟩
  | .hbm, ⟨19, _⟩ => ⟨S5000x80, .f32⟩
  | .hbm, ⟨20, _⟩ => ⟨S1x5000x80, .f32⟩
  | .local _ .vmem, ⟨0, _⟩ => ⟨S8x5120, .f32⟩
  | .local _ .vmem, ⟨1, _⟩ => ⟨S128x8, .f32⟩
  | .local _ .vmem, ⟨2, _⟩ => ⟨S128x8, .f32⟩
  | .local _ .vmem, ⟨3, _⟩ => ⟨S128x640, .f32⟩
  | .local _ .vmem, ⟨4, _⟩ => ⟨S128x640, .f32⟩
  | .local _ .vmem, ⟨5, _⟩ => ⟨S80x5120, .f32⟩
  | .local _ .vmem, ⟨6, _⟩ => ⟨S5120x640, .f32⟩
  | .local _ .vmem, ⟨7, _⟩ => ⟨S80x5120, .f32⟩
  | .local _ .vmem, ⟨8, _⟩ => ⟨S80x5120, .f32⟩
  | _, _ => ⟨S1x5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call2_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

@[reducible] def k1_t1_loop : Scf.Loop 32 :=
  let c0_i32 : BitVec 32 := 0#32
  let c300_i32 : BitVec 32 := 300#32
  let v12 : BitVec 32 := Scalar.addi c0_i32 c300_i32
  let c1_i32 : BitVec 32 := 1#32
  ⟨c0_i32, v12, c1_i32⟩
abbrev stage1_0 : Fin 1 → Memref sig .tc .vmem S80x5120 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S5120x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S80x5120 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S1x5000x4 : Shape := ⟨3, ![1, 5000, 4]⟩
abbrev S1x5000x80 : Shape := ⟨3, ![1, 5000, 80]⟩
abbrev S5000x4 : Shape := ⟨2, ![5000, 4]⟩
abbrev S5000x80 : Shape := ⟨2, ![5000, 80]⟩
abbrev S80 : Shape := ⟨1, ![80]⟩
abbrev S_ : Shape := ⟨0, ![]⟩
abbrev S80x1 : Shape := ⟨2, ![80, 1]⟩
abbrev S80x2 : Shape := ⟨2, ![80, 2]⟩
abbrev S80x4 : Shape := ⟨2, ![80, 4]⟩
abbrev S1x80 : Shape := ⟨2, ![1, 80]⟩
abbrev S5000x1 : Shape := ⟨2, ![5000, 1]⟩
abbrev S5000 : Shape := ⟨1, ![5000]⟩

abbrev nBuf : Space → Nat
  | .hbm => 181
  | .vmem => 0
  | .smem => 0
  | _ => 0

abbrev hbmTy0_0 (i : Nat) : BufTy := match i % 128 with
  | 0 => ⟨S1x5000x4, .f32⟩
  | 1 => ⟨S1x5000x80, .f32⟩
  | 2 => ⟨S5000x4, .f32⟩
  | 3 => ⟨S5000x80, .f32⟩
  | 4 => ⟨S80, .i32⟩
  | 5 => ⟨S_, .f32⟩
  | 6 => ⟨S5000x80, .f32⟩
  | 7 => ⟨S5000x80, .i1⟩
  | 8 => ⟨S_, .f32⟩
  | 9 => ⟨S5000x80, .f32⟩
  | 10 => ⟨S5000x80, .f32⟩
  | 11 => ⟨S_, .f32⟩
  | 12 => ⟨S5000x80, .f32⟩
  | 13 => ⟨S_, .f32⟩
  | 14 => ⟨S_, .i32⟩
  | 15 => ⟨S_, .i32⟩
  | 16 => ⟨S80, .i32⟩
  | 17 => ⟨S5000x4, .f32⟩
  | 18 => ⟨S_, .f32⟩
  | 19 => ⟨S_, .i32⟩
  | 20 => ⟨S_, .i32⟩
  | 21 => ⟨S5000x80, .f32⟩
  | 22 => ⟨S5000x80, .f32⟩
  | 23 => ⟨S_, .i32⟩
  | 24 => ⟨S_, .i1⟩
  | 25 => ⟨S_, .i32⟩
  | 26 => ⟨S_, .i32⟩
  | 27 => ⟨S5000x80, .i32⟩
  | 28 => ⟨S_, .f32⟩
  | 29 => ⟨S_, .i32⟩
  | 30 => ⟨S80, .f32⟩
  | 31 => ⟨S80, .i32⟩
  | 32 => ⟨S_, .i32⟩
  | 33 => ⟨S80, .i32⟩
  | 34 => ⟨S80, .i1⟩
  | 35 => ⟨S_, .i32⟩
  | 36 => ⟨S80, .i32⟩
  | 37 => ⟨S80, .i32⟩
  | 38 => ⟨S80, .i32⟩
  | 39 => ⟨S_, .i32⟩
  | 40 => ⟨S80, .i32⟩
  | 41 => ⟨S80, .i1⟩
  | 42 => ⟨S_, .i32⟩
  | 43 => ⟨S80, .i32⟩
  | 44 => ⟨S80, .i32⟩
  | 45 => ⟨S80, .i32⟩
  | 46 => ⟨S80x1, .i32⟩
  | 47 => ⟨S80x1, .i32⟩
  | 48 => ⟨S80x2, .i32⟩
  | 49 => ⟨S80, .f32⟩
  | 50 => ⟨S80, .f32⟩
  | 51 => ⟨S_, .f32⟩
  | 52 => ⟨S80, .f32⟩
  | 53 => ⟨S80, .i1⟩
  | 54 => ⟨S_, .i32⟩
  | 55 => ⟨S80, .i32⟩
  | 56 => ⟨S80, .i1⟩
  | 57 => ⟨S_, .i32⟩
  | 58 => ⟨S80, .i32⟩
  | 59 => ⟨S80, .i32⟩
  | 60 => ⟨S80, .i32⟩
  | 61 => ⟨S80x1, .i32⟩
  | 62 => ⟨S80x4, .f32⟩
  | 63 => ⟨S80x1, .f32⟩
  | 64 => ⟨S80, .f32⟩
  | 65 => ⟨S1x80, .f32⟩
  | 66 => ⟨S5000x1, .f32⟩
  | 67 => ⟨S5000x80, .f32⟩
  | 68 => ⟨S5000x80, .f32⟩
  | 69 => ⟨S5000x80, .f32⟩
  | 70 => ⟨S80x1, .f32⟩
  | 71 => ⟨S80, .f32⟩
  | 72 => ⟨S1x80, .f32⟩
  | 73 => ⟨S5000x1, .f32⟩
  | 74 => ⟨S5000x80, .f32⟩
  | 75 => ⟨S5000x80, .f32⟩
  | 76 => ⟨S5000x80, .f32⟩
  | 77 => ⟨S80x1, .f32⟩
  | 78 => ⟨S80, .f32⟩
  | 79 => ⟨S1x80, .f32⟩
  | 80 => ⟨S5000x1, .f32⟩
  | 81 => ⟨S5000x80, .f32⟩
  | 82 => ⟨S5000x80, .f32⟩
  | 83 => ⟨S5000x80, .f32⟩
  | 84 => ⟨S80x1, .f32⟩
  | 85 => ⟨S80, .f32⟩
  | 86 => ⟨S1x80, .f32⟩
  | 87 => ⟨S5000x1, .f32⟩
  | 88 => ⟨S5000x80, .f32⟩
  | 89 => ⟨S5000x80, .f32⟩
  | 90 => ⟨S5000x80, .f32⟩
  | 91 => ⟨S5000x80, .f32⟩
  | 92 => ⟨S_, .f32⟩
  | 93 => ⟨S5000x80, .f32⟩
  | 94 => ⟨S5000x80, .f32⟩
  | 95 => ⟨S5000x80, .f32⟩
  | 96 => ⟨S_, .f32⟩
  | 97 => ⟨S5000x80, .f32⟩
  | 98 => ⟨S5000x80, .f32⟩
  | 99 => ⟨S5000x80, .f32⟩
  | 100 => ⟨S80x1, .f32⟩
  | 101 => ⟨S80, .f32⟩
  | 102 => ⟨S80x1, .f32⟩
  | 103 => ⟨S80, .f32⟩
  | 104 => ⟨S80, .f32⟩
  | 105 => ⟨S80x1, .f32⟩
  | 106 => ⟨S80, .f32⟩
  | 107 => ⟨S80x1, .f32⟩
  | 108 => ⟨S80, .f32⟩
  | 109 => ⟨S80, .f32⟩
  | 110 => ⟨S80, .f32⟩
  | 111 => ⟨S5000x1, .f32⟩
  | 112 => ⟨S5000, .f32⟩
  | 113 => ⟨S5000x1, .f32⟩
  | 114 => ⟨S5000, .f32⟩
  | 115 => ⟨S5000, .f32⟩
  | 116 => ⟨S5000x1, .f32⟩
  | 117 => ⟨S5000, .f32⟩
  | 118 => ⟨S5000x1, .f32⟩
  | 119 => ⟨S5000, .f32⟩
  | 120 => ⟨S5000, .f32⟩
  | 121 => ⟨S5000, .f32⟩
  | 122 => ⟨S1x80, .f32⟩
  | 123 => ⟨S5000x1, .f32⟩
  | 124 => ⟨S5000x80, .f32⟩
  | 125 => ⟨S5000x80, .f32⟩
  | 126 => ⟨S5000x80, .f32⟩
  | 127 => ⟨S5000x80, .f32⟩
  | _ => ⟨S1x5000x4, .f32⟩

abbrev hbmTy0_1 (i : Nat) : BufTy := match i % 128 with
  | 0 => ⟨S_, .f32⟩
  | 1 => ⟨S5000x80, .f32⟩
  | 2 => ⟨S5000x80, .f32⟩
  | 3 => ⟨S5000x80, .f32⟩
  | 4 => ⟨S_, .f32⟩
  | 5 => ⟨S5000x80, .f32⟩
  | 6 => ⟨S5000x80, .i1⟩
  | 7 => ⟨S5000x80, .f32⟩
  | 8 => ⟨S5000x80, .f32⟩
  | 9 => ⟨S_, .i32⟩
  | 10 => ⟨S80, .i32⟩
  | 11 => ⟨S80, .i1⟩
  | 12 => ⟨S_, .i32⟩
  | 13 => ⟨S80, .i32⟩
  | 14 => ⟨S80, .i32⟩
  | 15 => ⟨S80, .i32⟩
  | 16 => ⟨S_, .i32⟩
  | 17 => ⟨S80, .i32⟩
  | 18 => ⟨S80, .i1⟩
  | 19 => ⟨S_, .i32⟩
  | 20 => ⟨S80, .i32⟩
  | 21 => ⟨S80, .i32⟩
  | 22 => ⟨S80, .i32⟩
  | 23 => ⟨S80x1, .i32⟩
  | 24 => ⟨S80x1, .i32⟩
  | 25 => ⟨S80x2, .i32⟩
  | 26 => ⟨S80, .f32⟩
  | 27 => ⟨S5000x80, .f32⟩
  | 28 => ⟨S_, .i32⟩
  | 29 => ⟨S80, .i32⟩
  | 30 => ⟨S80, .i1⟩
  | 31 => ⟨S_, .i32⟩
  | 32 => ⟨S80, .i32⟩
  | 33 => ⟨S80, .i32⟩
  | 34 => ⟨S80, .i32⟩
  | 35 => ⟨S_, .i32⟩
  | 36 => ⟨S80, .i32⟩
  | 37 => ⟨S80, .i1⟩
  | 38 => ⟨S_, .i32⟩
  | 39 => ⟨S80, .i32⟩
  | 40 => ⟨S80, .i32⟩
  | 41 => ⟨S80, .i32⟩
  | 42 => ⟨S80x1, .i32⟩
  | 43 => ⟨S80x1, .i32⟩
  | 44 => ⟨S80x2, .i32⟩
  | 45 => ⟨S5000x80, .f32⟩
  | 46 => ⟨S5000x80, .i1⟩
  | 47 => ⟨S5000x80, .f32⟩
  | 48 => ⟨S5000x80, .i1⟩
  | 49 => ⟨S5000x80, .f32⟩
  | 50 => ⟨S_, .i32⟩
  | 51 => ⟨S_, .i32⟩
  | 52 => ⟨S1x5000x80, .f32⟩
  | _ => ⟨S1x5000x4, .f32⟩

abbrev hbmTy (i : Nat) : BufTy := match i / 128 with
  | 0 => hbmTy0_0 i
  | 1 => hbmTy0_1 i
  | _ => ⟨S1x5000x4, .f32⟩

abbrev bufTy : (tb : Table) → Fin (tcTables nBuf tb) → BufTy
  | .hbm, ⟨i, _⟩ => hbmTy i
  | _, _ => ⟨S1x5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_call0_v0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_c : Ref sig .tc := ⟨.hbm, 14, rfl⟩
abbrev main_c_3 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev main_while0c_c_10 : Ref sig .tc := ⟨.hbm, 23, rfl⟩
abbrev main_while0c_v9 : Ref sig .tc := ⟨.hbm, 24, rfl⟩
abbrev main_while0b_c_10 : Ref sig .tc := ⟨.hbm, 25, rfl⟩
abbrev main_while0b_v9 : Ref sig .tc := ⟨.hbm, 26, rfl⟩
abbrev main_while0b_call1_v0 : Ref sig .tc := ⟨.hbm, 27, rfl⟩
abbrev main_while0b_call1_cst : Ref sig .tc := ⟨.hbm, 28, rfl⟩
abbrev main_while0b_call1_c : Ref sig .tc := ⟨.hbm, 29, rfl⟩
abbrev main_while0b_call1_v1_0 : Ref sig .tc := ⟨.hbm, 30, rfl⟩
abbrev main_while0b_v10 : Ref sig .tc := ⟨.hbm, 31, rfl⟩
abbrev main_while0b_c_11 : Ref sig .tc := ⟨.hbm, 32, rfl⟩
abbrev main_while0b_v11 : Ref sig .tc := ⟨.hbm, 33, rfl⟩
abbrev main_while0b_v12 : Ref sig .tc := ⟨.hbm, 34, rfl⟩
abbrev main_while0b_c_12 : Ref sig .tc := ⟨.hbm, 35, rfl⟩
abbrev main_while0b_v13 : Ref sig .tc := ⟨.hbm, 36, rfl⟩
abbrev main_while0b_v14 : Ref sig .tc := ⟨.hbm, 37, rfl⟩
abbrev main_while0b_v15 : Ref sig .tc := ⟨.hbm, 38, rfl⟩
abbrev main_while0b_c_13 : Ref sig .tc := ⟨.hbm, 39, rfl⟩
abbrev main_while0b_v16 : Ref sig .tc := ⟨.hbm, 40, rfl⟩
abbrev main_while0b_v17 : Ref sig .tc := ⟨.hbm, 41, rfl⟩
abbrev main_while0b_c_14 : Ref sig .tc := ⟨.hbm, 42, rfl⟩
abbrev main_while0b_v18 : Ref sig .tc := ⟨.hbm, 43, rfl⟩
abbrev main_while0b_v19 : Ref sig .tc := ⟨.hbm, 44, rfl⟩
abbrev main_while0b_v20 : Ref sig .tc := ⟨.hbm, 45, rfl⟩
abbrev main_while0b_v21 : Ref sig .tc := ⟨.hbm, 46, rfl⟩
abbrev main_while0b_v22 : Ref sig .tc := ⟨.hbm, 47, rfl⟩
abbrev main_while0b_v23 : Ref sig .tc := ⟨.hbm, 48, rfl⟩
abbrev main_while0b_v24 : Ref sig .tc := ⟨.hbm, 49, rfl⟩
abbrev main_while0b_v25 : Ref sig .tc := ⟨.hbm, 50, rfl⟩
abbrev main_while0b_cst_15 : Ref sig .tc := ⟨.hbm, 51, rfl⟩
abbrev main_while0b_v26 : Ref sig .tc := ⟨.hbm, 52, rfl⟩
abbrev main_while0b_v27 : Ref sig .tc := ⟨.hbm, 53, rfl⟩
abbrev main_while0b_c_16 : Ref sig .tc := ⟨.hbm, 54, rfl⟩
abbrev main_while0b_v28 : Ref sig .tc := ⟨.hbm, 55, rfl⟩
abbrev main_while0b_v29 : Ref sig .tc := ⟨.hbm, 56, rfl⟩
abbrev main_while0b_c_17 : Ref sig .tc := ⟨.hbm, 57, rfl⟩
abbrev main_while0b_v30 : Ref sig .tc := ⟨.hbm, 58, rfl⟩
abbrev main_while0b_v31 : Ref sig .tc := ⟨.hbm, 59, rfl⟩
abbrev main_while0b_v32 : Ref sig .tc := ⟨.hbm, 60, rfl⟩
abbrev main_while0b_v33 : Ref sig .tc := ⟨.hbm, 61, rfl⟩
abbrev main_while0b_v34 : Ref sig .tc := ⟨.hbm, 62, rfl⟩
abbrev main_while0b_v35 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_v40 : Ref sig .tc := ⟨.hbm, 68, rfl⟩
abbrev main_while0b_v41 : Ref sig .tc := ⟨.hbm, 69, rfl⟩
abbrev main_while0b_v42 : Ref sig .tc := ⟨.hbm, 70, rfl⟩
abbrev main_while0b_v43 : Ref sig .tc := ⟨.hbm, 71, rfl⟩
abbrev main_while0b_v44 : Ref sig .tc := ⟨.hbm, 72, rfl⟩
abbrev main_while0b_v45 : Ref sig .tc := ⟨.hbm, 73, rfl⟩
abbrev main_while0b_v46 : Ref sig .tc := ⟨.hbm, 74, rfl⟩
abbrev main_while0b_v47 : Ref sig .tc := ⟨.hbm, 75, rfl⟩
abbrev main_while0b_v48 : Ref sig .tc := ⟨.hbm, 76, rfl⟩
abbrev main_while0b_v49 : Ref sig .tc := ⟨.hbm, 77, rfl⟩
abbrev main_while0b_v50 : Ref sig .tc := ⟨.hbm, 78, rfl⟩
abbrev main_while0b_v51 : Ref sig .tc := ⟨.hbm, 79, rfl⟩
abbrev main_while0b_v52 : Ref sig .tc := ⟨.hbm, 80, rfl⟩
abbrev main_while0b_v53 : Ref sig .tc := ⟨.hbm, 81, rfl⟩
abbrev main_while0b_v54 : Ref sig .tc := ⟨.hbm, 82, rfl⟩
abbrev main_while0b_v55 : Ref sig .tc := ⟨.hbm, 83, rfl⟩
abbrev main_while0b_v56 : Ref sig .tc := ⟨.hbm, 84, rfl⟩
abbrev main_while0b_v57 : Ref sig .tc := ⟨.hbm, 85, rfl⟩
abbrev main_while0b_v58 : Ref sig .tc := ⟨.hbm, 86, rfl⟩
abbrev main_while0b_v59 : Ref sig .tc := ⟨.hbm, 87, rfl⟩
abbrev main_while0b_v60 : Ref sig .tc := ⟨.hbm, 88, rfl⟩
abbrev main_while0b_v61 : Ref sig .tc := ⟨.hbm, 89, rfl⟩
abbrev main_while0b_v62 : Ref sig .tc := ⟨.hbm, 90, rfl⟩
abbrev main_while0b_v63 : Ref sig .tc := ⟨.hbm, 91, rfl⟩
abbrev main_while0b_cst_18 : Ref sig .tc := ⟨.hbm, 92, rfl⟩
abbrev main_while0b_v64 : Ref sig .tc := ⟨.hbm, 93, rfl⟩
abbrev main_while0b_v65 : Ref sig .tc := ⟨.hbm, 94, rfl⟩
abbrev main_while0b_v66 : Ref sig .tc := ⟨.hbm, 95, rfl⟩
abbrev main_while0b_cst_19 : Ref sig .tc := ⟨.hbm, 96, rfl⟩
abbrev main_while0b_v67 : Ref sig .tc := ⟨.hbm, 97, rfl⟩
abbrev main_while0b_v68 : Ref sig .tc := ⟨.hbm, 98, rfl⟩
abbrev main_while0b_v69 : Ref sig .tc := ⟨.hbm, 99, rfl⟩
abbrev main_while0b_v70 : Ref sig .tc := ⟨.hbm, 100, rfl⟩
abbrev main_while0b_v71 : Ref sig .tc := ⟨.hbm, 101, rfl⟩
abbrev main_while0b_v72 : Ref sig .tc := ⟨.hbm, 102, rfl⟩
abbrev main_while0b_v73 : Ref sig .tc := ⟨.hbm, 103, rfl⟩
abbrev main_while0b_v74 : Ref sig .tc := ⟨.hbm, 104, rfl⟩
abbrev main_while0b_v75 : Ref sig .tc := ⟨.hbm, 105, rfl⟩
abbrev main_while0b_v76 : Ref sig .tc := ⟨.hbm, 106, rfl⟩
abbrev main_while0b_v77 : Ref sig .tc := ⟨.hbm, 107, rfl⟩
abbrev main_while0b_v78 : Ref sig .tc := ⟨.hbm, 108, rfl⟩
abbrev main_while0b_v79 : Ref sig .tc := ⟨.hbm, 109, rfl⟩
abbrev main_while0b_v80 : Ref sig .tc := ⟨.hbm, 110, rfl⟩
abbrev main_while0b_v81 : Ref sig .tc := ⟨.hbm, 111, rfl⟩
abbrev main_while0b_v82 : Ref sig .tc := ⟨.hbm, 112, rfl⟩
abbrev main_while0b_v83 : Ref sig .tc := ⟨.hbm, 113, rfl⟩
abbrev main_while0b_v84 : Ref sig .tc := ⟨.hbm, 114, rfl⟩
abbrev main_while0b_v85 : Ref sig .tc := ⟨.hbm, 115, rfl⟩
abbrev main_while0b_v86 : Ref sig .tc := ⟨.hbm, 116, rfl⟩
abbrev main_while0b_v87 : Ref sig .tc := ⟨.hbm, 117, rfl⟩
abbrev main_while0b_v88 : Ref sig .tc := ⟨.hbm, 118, rfl⟩
abbrev main_while0b_v89 : Ref sig .tc := ⟨.hbm, 119, rfl⟩
abbrev main_while0b_v90 : Ref sig .tc := ⟨.hbm, 120, rfl⟩
abbrev main_while0b_v91 : Ref sig .tc := ⟨.hbm, 121, rfl⟩
abbrev main_while0b_v92 : Ref sig .tc := ⟨.hbm, 122, rfl⟩
abbrev main_while0b_v93 : Ref sig .tc := ⟨.hbm, 123, rfl⟩
abbrev main_while0b_v94 : Ref sig .tc := ⟨.hbm, 124, rfl⟩
abbrev main_while0b_v95 : Ref sig .tc := ⟨.hbm, 125, rfl⟩
abbrev main_while0b_v96 : Ref sig .tc := ⟨.hbm, 126, rfl⟩
abbrev main_while0b_v97 : Ref sig .tc := ⟨.hbm, 127, rfl⟩
abbrev main_while0b_cst_20 : Ref sig .tc := ⟨.hbm, 128, rfl⟩
abbrev main_while0b_v98 : Ref sig .tc := ⟨.hbm, 129, rfl⟩
abbrev main_while0b_v99 : Ref sig .tc := ⟨.hbm, 130, rfl⟩
abbrev main_while0b_v100 : Ref sig .tc := ⟨.hbm, 131, rfl⟩
abbrev main_while0b_cst_21 : Ref sig .tc := ⟨.hbm, 132, rfl⟩
abbrev main_while0b_v101 : Ref sig .tc := ⟨.hbm, 133, rfl⟩
abbrev main_while0b_v102 : Ref sig .tc := ⟨.hbm, 134, rfl⟩
abbrev main_while0b_call2_v0 : Ref sig .tc := ⟨.hbm, 135, rfl⟩
abbrev main_while0b_v103 : Ref sig .tc := ⟨.hbm, 136, rfl⟩
abbrev main_while0b_c_22 : Ref sig .tc := ⟨.hbm, 137, rfl⟩
abbrev main_while0b_v104 : Ref sig .tc := ⟨.hbm, 138, rfl⟩
abbrev main_while0b_v105 : Ref sig .tc := ⟨.hbm, 139, rfl⟩
abbrev main_while0b_c_23 : Ref sig .tc := ⟨.hbm, 140, rfl⟩
abbrev main_while0b_v106 : Ref sig .tc := ⟨.hbm, 141, rfl⟩
abbrev main_while0b_v107 : Ref sig .tc := ⟨.hbm, 142, rfl⟩
abbrev main_while0b_v108 : Ref sig .tc := ⟨.hbm, 143, rfl⟩
abbrev main_while0b_c_24 : Ref sig .tc := ⟨.hbm, 144, rfl⟩
abbrev main_while0b_v109 : Ref sig .tc := ⟨.hbm, 145, rfl⟩
abbrev main_while0b_v110 : Ref sig .tc := ⟨.hbm, 146, rfl⟩
abbrev main_while0b_c_25 : Ref sig .tc := ⟨.hbm, 147, rfl⟩
abbrev main_while0b_v111 : Ref sig .tc := ⟨.hbm, 148, rfl⟩
abbrev main_while0b_v112 : Ref sig .tc := ⟨.hbm, 149, rfl⟩
abbrev main_while0b_v113 : Ref sig .tc := ⟨.hbm, 150, rfl⟩
abbrev main_while0b_v114 : Ref sig .tc := ⟨.hbm, 151, rfl⟩
abbrev main_while0b_v115 : Ref sig .tc := ⟨.hbm, 152, rfl⟩
abbrev main_while0b_v116 : Ref sig .tc := ⟨.hbm, 153, rfl⟩
abbrev main_while0b_v117 : Ref sig .tc := ⟨.hbm, 154, rfl⟩
abbrev main_while0b_v118 : Ref sig .tc := ⟨.hbm, 155, rfl⟩
abbrev main_while0b_c_26 : Ref sig .tc := ⟨.hbm, 156, rfl⟩
abbrev main_while0b_v119 : Ref sig .tc := ⟨.hbm, 157, rfl⟩
abbrev main_while0b_v120 : Ref sig .tc := ⟨.hbm, 158, rfl⟩
abbrev main_while0b_c_27 : Ref sig .tc := ⟨.hbm, 159, rfl⟩
abbrev main_while0b_v121 : Ref sig .tc := ⟨.hbm, 160, rfl⟩
abbrev main_while0b_v122 : Ref sig .tc := ⟨.hbm, 161, rfl⟩
abbrev main_while0b_v123 : Ref sig .tc := ⟨.hbm, 162, rfl⟩
abbrev main_while0b_c_28 : Ref sig .tc := ⟨.hbm, 163, rfl⟩
abbrev main_while0b_v124 : Ref sig .tc := ⟨.hbm, 164, rfl⟩
abbrev main_while0b_v125 : Ref sig .tc := ⟨.hbm, 165, rfl⟩
abbrev main_while0b_c_29 : Ref sig .tc := ⟨.hbm, 166, rfl⟩
abbrev main_while0b_v126 : Ref sig .tc := ⟨.hbm, 167, rfl⟩
abbrev main_while0b_v127 : Ref sig .tc := ⟨.hbm, 168, rfl⟩
abbrev main_while0b_v128 : Ref sig .tc := ⟨.hbm, 169, rfl⟩
abbrev main_while0b_v129 : Ref sig .tc := ⟨.hbm, 170, rfl⟩
abbrev main_while0b_v130 : Ref sig .tc := ⟨.hbm, 171, rfl⟩
abbrev main_while0b_v131 : Ref sig .tc := ⟨.hbm, 172, rfl⟩
abbrev main_while0b_v132 : Ref sig .tc := ⟨.hbm, 173, rfl⟩
abbrev main_while0b_call3_v0 : Ref sig .tc := ⟨.hbm, 174, rfl⟩
abbrev main_while0b_v133 : Ref sig .tc := ⟨.hbm, 175, rfl⟩
abbrev main_while0b_call4_v0 : Ref sig .tc := ⟨.hbm, 176, rfl⟩
abbrev main_while0b_v134 : Ref sig .tc := ⟨.hbm, 177, rfl⟩
abbrev main_while0b_c_30 : Ref sig .tc := ⟨.hbm, 178, rfl⟩
abbrev main_while0b_v135 : Ref sig .tc := ⟨.hbm, 179, rfl⟩
abbrev main_v8 : Ref sig .tc := ⟨.hbm, 180, rfl⟩

abbrev nD : Nat := 1
abbrev τ : Topo := Topo.v7x

variable {F : FTy → Type} [FloatOps F]

abbrev main_while0_count : Scf.Loop 32 := ⟨0#32, 300#32, 1#32⟩
-- ==== Proof.KernelWords.lean ====
/-
  The packed overlap words at an index: the test of two boxes as one function of their eight coordinates, eight tests
  packed into one word, and the kernel's block and array of words as those.
-/
module

public import proofs.«01_k».proof.Proof.Gen.KernelIdeal.Frame
public import Idealize.ShloMosaic.Lib.Pipeline.ValueKit
public import Idealize.ShloMosaic.Lib.ValueIdxCore
public import Idealize.ShloMosaic.Lib.ValueLayout

@[expose] public section

set_option maxRecDepth 16384

noncomputable section

namespace Cert.KWord

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]

/-- The area of the intersection of two boxes. -/
def inter (a b : Fin 4 → F .f32) : F .f32 :=
  FloatOps.mulf
    (FloatOps.maximumf (FloatOps.subf (FloatOps.minimumf (a 2) (b 2)) (FloatOps.maximumf (a 0) (b 0))) (FloatOps.ofBits .f32 0x00000000#32))
    (FloatOps.maximumf (FloatOps.subf (FloatOps.minimumf (a 3) (b 3)) (FloatOps.maximumf (a 1) (b 1))) (FloatOps.ofBits .f32 0x00000000#32))

/-- The area of a box. -/
def area (a : Fin 4 → F .f32) : F .f32 := FloatOps.mulf (FloatOps.subf (a 2) (a 0)) (FloatOps.subf (a 3) (a 1))

/-- Whether two boxes overlap by more than a half. -/
def hit (a b : Fin 4 → F .f32) : BitVec 1 :=
  FloatOps.cmpf .ogt
    (FloatOps.divf (inter a b)
      (FloatOps.addf (FloatOps.subf (FloatOps.addf (area a) (area b)) (inter a b)) (FloatOps.ofBits .f32 0x322BCC77#32)))
    (FloatOps.ofBits .f32 0x3F000000#32)

/-- A column of the wide array from a column of the packed one and its plane. -/
abbrev lane (l : ℕ) (hl : l < 8) (q : Fin 640) : Fin 5120 := ⟨640 * l + q.val, by omega⟩

/-- Eight bits in one word, bit `l` of the word the bit of plane `l`. -/
def pack (h : (l : ℕ) → l < 8 → BitVec 1) : BitVec 32 :=
  IntOp.ori (IntOp.ori (IntOp.ori (IntOp.ori (IntOp.ori (IntOp.ori (IntOp.ori (IntOp.ori 0#32
    (IntOp.shli .vector ((h 0 (by omega)).setWidth 32) 0#32)) (IntOp.shli .vector ((h 1 (by omega)).setWidth 32) 1#32))
    (IntOp.shli .vector ((h 2 (by omega)).setWidth 32) 2#32)) (IntOp.shli .vector ((h 3 (by omega)).setWidth 32) 3#32))
    (IntOp.shli .vector ((h 4 (by omega)).setWidth 32) 4#32)) (IntOp.shli .vector ((h 5 (by omega)).setWidth 32) 5#32))
    (IntOp.shli .vector ((h 6 (by omega)).setWidth 32) 6#32)) (IntOp.shli .vector ((h 7 (by omega)).setWidth 32) 7#32)

theorem bcRow (v : S1x5120.Idx → F .f32) (p : Fin 128) (j : Fin 5120) :
    broadcastTo S128x5120 v broadcasts_S1x5120_S128x5120 (ValueIdx.ix2 p j) = v (ValueIdx.ix2 (0 : Fin 1) j) :=
  ValueIdx.broadcastTo_1b_ab_apply v _ p j

theorem bcCol (v : S128x1.Idx → F .f32) (p : Fin 128) (j : Fin 5120) :
    broadcastTo S128x5120 v broadcasts_S128x1_S128x5120 (ValueIdx.ix2 p j) = v (ValueIdx.ix2 p (0 : Fin 1)) := by
  refine broadcastTo_apply v _ (ValueIdx.ix2 p j) (ValueIdx.ix2 p (0 : Fin 1)) fun ax => ?_
  match ax with
  | ⟨0, _⟩ => rfl
  | ⟨1, _⟩ => rfl

/-- The overlap test of the block at a row and a column of the wide array. -/
theorem hit_apply (v0 v2 v4 v6 : Vec F S1x5120 .f32) (v11 v13 v15 v17 : Vec F S128x1 .f32) (p : Fin 128) (j : Fin 5120) :
    FloatOps.cmpf .ogt (FloatOps.divf (k0_pay10 v0 v2 v4 v6 v11 v13 v15 v17 (ValueIdx.ix2 p j))
      (FloatOps.addf (FloatOps.subf (FloatOps.addf (k0_pay11 v11 v13 v15 v17 (ValueIdx.ix2 p (0 : Fin 1))) (k0_pay5 v0 v2 v4 v6 (ValueIdx.ix2 (0 : Fin 1) j)))
        (k0_pay10 v0 v2 v4 v6 v11 v13 v15 v17 (ValueIdx.ix2 p j))) (FloatOps.ofBits .f32 0x322BCC77#32))) (FloatOps.ofBits .f32 0x3F000000#32)
      = hit ![v11 (ValueIdx.ix2 p (0 : Fin 1)), v13 (ValueIdx.ix2 p (0 : Fin 1)), v15 (ValueIdx.ix2 p (0 : Fin 1)), v17 (ValueIdx.ix2 p (0 : Fin 1))]
          ![v0 (ValueIdx.ix2 (0 : Fin 1) j), v2 (ValueIdx.ix2 (0 : Fin 1) j), v4 (ValueIdx.ix2 (0 : Fin 1) j), v6 (ValueIdx.ix2 (0 : Fin 1) j)] := by
  have h : k0_pay10 v0 v2 v4 v6 v11 v13 v15 v17 (ValueIdx.ix2 p j)
      = inter ![v11 (ValueIdx.ix2 p (0 : Fin 1)), v13 (ValueIdx.ix2 p (0 : Fin 1)), v15 (ValueIdx.ix2 p (0 : Fin 1)), v17 (ValueIdx.ix2 p (0 : Fin 1))]
          ![v0 (ValueIdx.ix2 (0 : Fin 1) j), v2 (ValueIdx.ix2 (0 : Fin 1) j), v4 (ValueIdx.ix2 (0 : Fin 1) j), v6 (ValueIdx.ix2 (0 : Fin 1) j)] := by
    unfold k0_pay10 k0_pay1 k0_pay2 k0_pay3 k0_pay4 k0_pay6 k0_pay7 k0_pay8 k0_pay9
    simp only [shapeCast_self]
    show FloatOps.mulf (FloatOps.maximumf (FloatOps.subf (FloatOps.minimumf (broadcastTo S128x5120 _ _ (ValueIdx.ix2 p j)) (broadcastTo S128x5120 _ _ (ValueIdx.ix2 p j)))
        (FloatOps.maximumf (broadcastTo S128x5120 _ _ (ValueIdx.ix2 p j)) (broadcastTo S128x5120 _ _ (ValueIdx.ix2 p j)))) _)
      (FloatOps.maximumf (FloatOps.subf (FloatOps.minimumf (broadcastTo S128x5120 _ _ (ValueIdx.ix2 p j)) (broadcastTo S128x5120 _ _ (ValueIdx.ix2 p j)))
        (FloatOps.maximumf (broadcastTo S128x5120 _ _ (ValueIdx.ix2 p j)) (broadcastTo S128x5120 _ _ (ValueIdx.ix2 p j)))) _) = _
    rw [bcRow, bcRow, bcRow, bcRow, bcCol, bcCol, bcCol, bcCol]
    rfl
  have h5 : k0_pay5 v0 v2 v4 v6 (ValueIdx.ix2 (0 : Fin 1) j)
      = area ![v0 (ValueIdx.ix2 (0 : Fin 1) j), v2 (ValueIdx.ix2 (0 : Fin 1) j), v4 (ValueIdx.ix2 (0 : Fin 1) j), v6 (ValueIdx.ix2 (0 : Fin 1) j)] := by
    unfold k0_pay5 k0_pay1 k0_pay2 k0_pay3 k0_pay4
    simp only [shapeCast_self]
    rfl
  have h11 : k0_pay11 v11 v13 v15 v17 (ValueIdx.ix2 p (0 : Fin 1))
      = area ![v11 (ValueIdx.ix2 p (0 : Fin 1)), v13 (ValueIdx.ix2 p (0 : Fin 1)), v15 (ValueIdx.ix2 p (0 : Fin 1)), v17 (ValueIdx.ix2 p (0 : Fin 1))] := by
    unfold k0_pay11 k0_pay6 k0_pay7 k0_pay8 k0_pay9
    simp only [shapeCast_self]
    rfl
  rw [h, h5, h11]
  rfl

theorem slice_apply {α : Type} (x : S128x5120.Idx → α) (l : ℕ) (hl : l < 8) (h : S128x5120.Slices ![0, 640 * l] S128x640) (p : Fin 128)
    (q : Fin 640) : extractStridedSlice S128x640 ![0, 640 * l] x h (ValueIdx.ix2 p q) = x (ValueIdx.ix2 p (lane l hl q)) := by
  unfold extractStridedSlice
  refine congrArg x (funext fun a => Fin.ext ?_)
  match a with
  | ⟨0, _⟩ => exact Nat.zero_add _
  | ⟨1, _⟩ => rfl

/-- The packed words of a block, from the overlap tests of its rows against every column. -/
theorem word_apply (v10 : FVec F S1x5120 .f32) (v37 : FVec F S128x5120 .f32) (v40 : FVec F S128x1 .f32) (p : Fin 128) (q : Fin 640) :
    k0_pay12 v10 v37 v40 (ValueIdx.ix2 p q)
      = FloatOps.sitofp .f32 (pack fun l hl =>
          FloatOps.cmpf .ogt (FloatOps.divf (v37 (ValueIdx.ix2 p (lane l hl q)))
            (FloatOps.addf (FloatOps.subf (FloatOps.addf (v40 (ValueIdx.ix2 p (0 : Fin 1))) (v10 (ValueIdx.ix2 (0 : Fin 1) (lane l hl q)))) (v37 (ValueIdx.ix2 p (lane l hl q))))
              (FloatOps.ofBits .f32 0x322BCC77#32))) (FloatOps.ofBits .f32 0x3F000000#32)) := by
  have key : ∀ (l : ℕ) (hl : l < 8) (h : S128x5120.Slices ![0, 640 * l] S128x640),
      extractStridedSlice S128x640 ![0, 640 * l]
        (extui 32 (cmpf .ogt (divf v37 (addf (subf (addf (broadcastTo S128x5120 v40 broadcasts_S128x1_S128x5120)
          (broadcastTo S128x5120 v10 broadcasts_S1x5120_S128x5120)) v37) (broadcast S128x5120 (Scalar.ofBits .f32 0x322BCC77#32))))
          (broadcast S128x5120 (Scalar.ofBits .f32 0x3F000000#32))) natLt_1_32) h (ValueIdx.ix2 p q)
      = (FloatOps.cmpf .ogt (FloatOps.divf (v37 (ValueIdx.ix2 p (lane l hl q)))
            (FloatOps.addf (FloatOps.subf (FloatOps.addf (v40 (ValueIdx.ix2 p (0 : Fin 1))) (v10 (ValueIdx.ix2 (0 : Fin 1) (lane l hl q)))) (v37 (ValueIdx.ix2 p (lane l hl q))))
              (FloatOps.ofBits .f32 0x322BCC77#32))) (FloatOps.ofBits .f32 0x3F000000#32)).setWidth 32 := by
    intro l hl h
    rw [slice_apply _ l hl h p q, ← bcRow v10 p, ← bcCol v40 p (lane l hl q)]
    rfl
  unfold k0_pay12 pack
  rw [← key 0 (by omega) slices_S128x5120_o0_0_S128x640, ← key 1 (by omega) slices_S128x5120_o0_640_S128x640,
    ← key 2 (by omega) slices_S128x5120_o0_1280_S128x640, ← key 3 (by omega) slices_S128x5120_o0_1920_S128x640,
    ← key 4 (by omega) slices_S128x5120_o0_2560_S128x640, ← key 5 (by omega) slices_S128x5120_o0_3200_S128x640,
    ← key 6 (by omega) slices_S128x5120_o0_3840_S128x640, ← key 7 (by omega) slices_S128x5120_o0_4480_S128x640]
  rfl

/-- The packed word of a row box against the boxes held as columns, at a column of the packed array. -/
def word (cols : S8x5120.Idx → F .f32) (a : Fin 4 → F .f32) (q : Fin 640) : F .f32 :=
  FloatOps.sitofp .f32 (pack fun l hl => hit a fun k => cols (ValueIdx.ix2 (⟨k.val, by omega⟩ : Fin 8) (lane l hl q)))

/-- The array of packed words, from the boxes as columns and as rows. -/
def words (cols : S8x5120.Idx → F .f32) (rows : S5120x8.Idx → F .f32) : S5120x640.Idx → F .f32 :=
  fun i => word cols (fun k => rows (ValueIdx.ix2 (i 0) (⟨k.val, by omega⟩ : Fin 8))) (i 1)

/-- The block of packed words from the two blocks read. -/
theorem block_apply (X : S8x5120.Idx → F .f32) (Y : S128x8.Idx → F .f32) (p : Fin 128) (q : Fin 640) :
    k0_pay12 (k0_pay5 (View.ld X r0_0) (View.ld X r0_1) (View.ld X r0_2) (View.ld X r0_3))
        (k0_pay10 (View.ld X r0_0) (View.ld X r0_1) (View.ld X r0_2) (View.ld X r0_3)
          (View.ld Y r0_4) (View.ld Y r0_5) (View.ld Y r0_6) (View.ld Y r0_7))
        (k0_pay11 (View.ld Y r0_4) (View.ld Y r0_5) (View.ld Y r0_6) (View.ld Y r0_7)) (ValueIdx.ix2 p q)
      = word X (fun k => Y (ValueIdx.ix2 p (⟨k.val, by omega⟩ : Fin 8))) q := by
  rw [word_apply]
  unfold word
  simp only [hit_apply]
  have hx : ∀ (k : Fin 8) (off) (inb) (e : off = ![k.val, 0]) (j : Fin 5120),
      (View.ld X (Rect.unit (s := S8x5120) off S1x5120.size inb) : Vec F S1x5120 .f32) (ValueIdx.ix2 (0 : Fin 1) j) = X (ValueIdx.ix2 k j) := by
    intro k off inb e j
    subst e
    refine congrArg X (funext fun a => Fin.ext ?_)
    match a with
    | ⟨0, _⟩ => first | exact Nat.add_zero _ | (show _ + 1 * 0 = _; simp) | (show _ + 0 * 1 = _; simp)
    | ⟨1, _⟩ => first | (show 0 + 1 * j.val = j.val; omega) | (show 0 + j.val * 1 = j.val; omega)
  have hy : ∀ (k : Fin 8) (off) (inb) (e : off = ![0, k.val]),
      (View.ld Y (Rect.unit (s := S128x8) off S128x1.size inb) : Vec F S128x1 .f32) (ValueIdx.ix2 p (0 : Fin 1)) = Y (ValueIdx.ix2 p k) := by
    intro k off inb e
    subst e
    refine congrArg Y (funext fun a => Fin.ext ?_)
    match a with
    | ⟨0, _⟩ => first | (show 0 + 1 * p.val = p.val; omega) | (show 0 + p.val * 1 = p.val; omega)
    | ⟨1, _⟩ => first | exact Nat.add_zero _ | (show _ + 1 * 0 = _; simp) | (show _ + 0 * 1 = _; simp)
  refine congrArg _ (congrArg pack (funext fun l => funext fun hl => ?_))
  congr 1
  · funext k
    match k with
    | 0 => exact hy 0 _ _ rfl
    | 1 => exact hy 1 _ _ rfl
    | 2 => exact hy 2 _ _ rfl
    | 3 => exact hy 3 _ _ rfl
  · funext k
    match k with
    | 0 => exact hx 0 _ _ rfl _
    | 1 => exact hx 1 _ _ rfl _
    | 2 => exact hx 2 _ _ rfl _
    | 3 => exact hx 3 _ _ rfl _

section Array
variable (m : (ℓ : Loc nD τ sig) → Buf (Elt F) ℓ) (ρ : Dev nD → PrngReg)

/-- What the words' region leaves in its output array. -/
theorem words_eq (c : Dev nD) : W7 m ρ c (Proc.devRef .tc main_v8)
    = words (W6 m ρ c (Proc.devRef .tc main_v2)) (W6 m ρ c (Proc.devRef .tc main_v4)) := by
  refine (W7_arr m ρ c 2).trans ?_
  have e0 : ∀ t : Fin cfg0.N, win0_0.index t = ![0, 0] := by decide +kernel
  have e1 : ∀ t : Fin cfg0.N, win0_1.index t = ![(grid0.coords t 0).val, 0] := by decide +kernel
  have e2 : ∀ t : Fin cfg0.N, win0_2.index t = ![(grid0.coords t 0).val, 0] := by decide +kernel
  refine (dat0 (V6 m ρ) c).arrAt_eq_of_covers 2 _ (by decide +kernel) fun t hf y => ?_
  blk_simp
  rw [after0_2]
  frame_out
  have h0 : iblk0 (V6 m ρ) c 0 t = W6 m ρ c (Proc.devRef .tc main_v2) := by
    blk_ext! [iblk0, e0 t]
  rw [h0]
  obtain ⟨p, q, rfl⟩ : ∃ (p : Fin 128) (q : Fin 640), y = ValueIdx.ix2 p q := ⟨y 0, y 1, ValueIdx.eq_ix2 y⟩
  refine (block_apply _ _ p q).trans ?_
  unfold words
  have hq : (((View.whole main_v8).slice (win0_2.rect t)).emb (ValueIdx.ix2 p q)) 1 = q := by
    apply Fin.ext
    blk_simp [e2 t]
    rfl
  have hp : ((((View.whole main_v8).slice (win0_2.rect t)).emb (ValueIdx.ix2 p q)) 0).val = (grid0.coords t 0).val * 128 + p.val := by
    blk_simp [e2 t]
    try rfl
  have hr : ∀ k : Fin 8, iblk0 (V6 m ρ) c 1 t (ValueIdx.ix2 p k)
      = W6 m ρ c (Proc.devRef .tc main_v4) (ValueIdx.ix2 ((((View.whole main_v8).slice (win0_2.rect t)).emb (ValueIdx.ix2 p q)) 0) k) := by
    intro k
    blk_ext! [iblk0, e1 t, e2 t]
    exact hp.symm
  rw [hq]
  exact congrArg (fun a => word _ a q) (funext fun k => hr _)
end Array

end Cert.KWord
-- ==== Proof.KernelLoop.lean ====
/-
  The greedy loop of the kernel as a recursion on plain arrays: each trip takes the scores and the result as it finds
  them to the next ones, and the output block is the result after 300 trips.
-/
module

public import proofs.«01_k».proof.Proof.Gen.KernelIdeal.Frame
public import Idealize.ShloMosaic.Lib.WritesUnit
public import Idealize.ShloMosaic.Lib.Pipeline.Value

@[expose] public section

set_option maxRecDepth 16384

noncomputable section

namespace Cert.KLoop

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

/-- Column numbers of the score block. -/
abbrev cols : IVec S80x5120 32 := iota .tc S80x5120 32 [1] iota_S80x5120_d1_w32
/-- Minus infinity. -/
abbrev ninf : F .f32 := Scalar.ofBits .f32 0xFF800000#32

/-- The scores after one trip, from the packed overlap words and the scores before it. -/
def nextS (W : Vec F S5120x640 .f32) (s : Vec F S80x5120 .f32) : Vec F S80x5120 .f32 :=
  k1_pay3 s (k1_pay6 ninf s) (k1_pay7 cols ninf s) (k1_pay8 cols ninf s W) (k1_pay9 cols ninf s W)
    (k1_pay10 cols ninf s W) (k1_pay11 cols ninf s W) (k1_pay12 cols ninf s W) (k1_pay13 cols ninf s W)
/-- The result after one trip. -/
def nextO (s o : Vec F S80x5120 .f32) : Vec F S80x5120 .f32 := k1_pay4 (k1_pay5 s) (k1_pay7 cols ninf s) o

/-- Scores and result after `k` trips. -/
def state (W : Vec F S5120x640 .f32) (s o : Vec F S80x5120 .f32) : ℕ → Vec F S80x5120 .f32 × Vec F S80x5120 .f32
  | 0 => (s, o)
  | k + 1 => (nextS W (state W s o k).1, nextO (state W s o k).1 (state W s o k).2)

abbrev whole : Rect S80x5120 := Rect.unit (s := S80x5120) ![0, 0] S80x5120.size inb_S80x5120_S80x5120_0_0

theorem off_zero : (![0, 0] : Fin S80x5120.rank → ℕ) = fun _ => 0 := by decide +kernel

/-- A store of the whole block is what a read of the block finds. -/
theorem read_store (v : View sig .tc .vmem S80x5120 .f32) (f : v.ty.Contents (Elt F)) (p : Vec F S80x5120 .f32)
    (L : List (View.Piece (Elt F) S80x5120 .f32)) :
    v.read (Elt F) (v.writes (Elt F) f (⟨whole, p⟩ :: L)) = p := by
  funext y
  exact View.read_writes_cons_unit_of_mem v f inb_S80x5120_S80x5120_0_0 p L y y rfl
    (fun a => by rw [congrFun off_zero a, Nat.zero_add])

/-- A load of the whole block is a read of the block. -/
theorem load_whole (v : View sig .tc .vmem S80x5120 .f32) (f : v.ty.Contents (Elt F)) :
    View.readAt (Elt F) v whole.toLoadRect f = v.read (Elt F) f := by
  rw [View.readAt_eq_ld]
  exact View.ld_unit_zero off_zero _ _

theorem load_wholeW (v : View sig .tc .vmem S5120x640 .f32) (f : v.ty.Contents (Elt F)) :
    View.readAt (Elt F) v (Rect.unit (s := S5120x640) ![0, 0] S5120x640.size inb_S5120x640_S5120x640_0_0).toLoadRect f
      = v.read (Elt F) f := by
  rw [View.readAt_eq_ld]
  exact View.ld_unit_zero (by decide +kernel) _ _

section Trip

variable (𝒱 : Variants) (c : Dev nD) (bd : Option 𝒱.V) (arg0 : Memref sig .tc .vmem S80x5120 .f32) (harg0 : arg0.IsWhole)
  (arg1 : Memref sig .tc .vmem S5120x640 .f32) (harg1 : arg1.IsWhole) (arg2 : Memref sig .tc .vmem S80x5120 .f32)
  (harg2 : arg2.IsWhole) (arg3 : Memref sig .tc .vmem S80x5120 .f32) (harg3 : arg3.IsWhole)
  (X : BufTy.Contents (Elt F) arg1.view.ty)

/-- What one trip stores to the result. -/
theorem trip_result (k : Fin k1_t1_loop.trips) (f2 f3) :
    (tripL_k1_t1 (F := F) 𝒱 c bd arg0 harg0 arg1 harg1 arg2 harg2 arg3 harg3 cols ninf X k f2 f3).1
      = [⟨whole, nextO (arg3.view.read (Elt F) f3) (arg2.view.read (Elt F) f2)⟩] := by
  rw [← load_whole, ← load_whole]
  unfold tripL_k1_t1 trip_k1_t1 nextO
  rfl

/-- What one trip stores to the scores. -/
theorem trip_scores (k : Fin k1_t1_loop.trips) (f2 f3) :
    (tripL_k1_t1 (F := F) 𝒱 c bd arg0 harg0 arg1 harg1 arg2 harg2 arg3 harg3 cols ninf X k f2 f3).2
      = [⟨whole, nextS (arg1.view.read (Elt F) X) (arg3.view.read (Elt F) f3)⟩] := by
  rw [← load_whole, ← load_wholeW]
  unfold tripL_k1_t1 trip_k1_t1 nextS
  rfl

/-- The blocks after `k` trips hold the recursion's arrays. -/
theorem state_reads (G2 : BufTy.Contents (Elt F) arg2.view.ty) (G3 : BufTy.Contents (Elt F) arg3.view.ty) :
    ∀ k, k ≤ k1_t1_loop.trips →
      arg3.view.read (Elt F) (arg3.view.writes (Elt F) G3
          (pb_k1_t1 (F := F) 𝒱 c bd arg0 harg0 arg1 harg1 arg2 harg2 arg3 harg3 cols ninf X G2 G3 k).2)
        = (state (arg1.view.read (Elt F) X) (arg3.view.read (Elt F) G3) (arg2.view.read (Elt F) G2) k).1
      ∧ arg2.view.read (Elt F) (arg2.view.writes (Elt F) G2
          (pb_k1_t1 (F := F) 𝒱 c bd arg0 harg0 arg1 harg1 arg2 harg2 arg3 harg3 cols ninf X G2 G3 k).1)
        = (state (arg1.view.read (Elt F) X) (arg3.view.read (Elt F) G3) (arg2.view.read (Elt F) G2) k).2 := by
  intro k
  induction k with
  | zero => intro _; exact ⟨rfl, rfl⟩
  | succ k ih =>
    intro hk
    obtain ⟨h3, h2⟩ := ih (Nat.le_of_succ_le hk)
    rw [show k + 1 = (⟨k, hk⟩ : Fin k1_t1_loop.trips).val + 1 from rfl, pb_k1_t1_succ, trip_result, trip_scores]
    simp only [List.cons_append, List.nil_append, read_store, h3, h2, state]
    exact ⟨trivial, trivial⟩

end Trip

theorem trips_eq : Scf.trips (0#32) (Scalar.addi 0#32 300#32) 1#32 = 300 := by decide +kernel

/-- The output block of the loop's region: the result after 300 trips from the thresholded scores and a zero result. -/
theorem block_eq (c : Dev nD) (arg0 : Memref sig .tc .vmem S80x5120 .f32) (harg0 : arg0.IsWhole)
    (arg1 : Memref sig .tc .vmem S5120x640 .f32) (harg1 : arg1.IsWhole) (arg2 : Memref sig .tc .vmem S80x5120 .f32)
    (harg2 : arg2.IsWhole) (arg3 : Memref sig .tc .vmem S80x5120 .f32) (harg3 : arg3.IsWhole)
    (x0 : Vec F S80x5120 .f32) (x1 : Vec F S5120x640 .f32) :
    out1_A_2 c arg0 harg0 arg1 harg1 arg2 harg2 arg3 harg3 x0 x1 = (state x1 (k1_pay1 x0) k1_pay2 300).2 := by
  have hL : (kernelRun1_A c arg0 harg0 arg1 harg1 arg2 harg2 arg3 harg3 x0 x1).1
      = (pb_k1_t1 Variants.none c none arg0 harg0 arg1 harg1 arg2 harg2 arg3 harg3 cols ninf
          (harg1.unread x1) (arg2.view.writes (Elt F) arg2.view.junk [⟨whole, k1_pay2⟩])
          (arg3.view.writes (Elt F) arg3.view.junk
            [⟨whole, k1_pay1 (View.readAt (Elt F) arg0.view whole.toLoadRect (harg0.unread x0))⟩])
          (Scf.trips (0#32) (Scalar.addi 0#32 300#32) 1#32)).1 ++ [⟨whole, k1_pay2⟩] := by
    unfold kernelRun1_A
    rfl
  have hread := (state_reads Variants.none c none arg0 harg0 arg1 harg1 arg2 harg2 arg3 harg3 (harg1.unread x1)
    (arg2.view.writes (Elt F) arg2.view.junk [⟨whole, k1_pay2⟩])
    (arg3.view.writes (Elt F) arg3.view.junk
      [⟨whole, k1_pay1 (View.readAt (Elt F) arg0.view whole.toLoadRect (harg0.unread x0))⟩]) 300 (by decide +kernel)).2
  unfold out1_A_2
  rw [View.read_writes_of_cover VO1_2 VO1_2.junk arg2.view arg2.view.junk _
    (cover1_A_2 c arg0 harg0 arg1 harg1 arg2 harg2 arg3 harg3 x0 x1), hL, trips_eq, View.writes_append, hread, read_store,
    read_store, load_whole, harg0.read_unread, harg1.read_unread]

end Cert.KLoop
-- ==== Proof.First.lean ====
/-
  The first index of the greatest value, and a fold that finds it.
-/
module

public import Idealize.ShloMosaic.PureOps.Ideal.Laws

@[expose] public section

set_option maxRecDepth 100000

noncomputable section

namespace Cert.Pick

/-- The index of the greatest value, the least such index on a tie. -/
def IsFirst {n : ℕ} (f : Fin n → EReal) (i : Fin n) : Prop := (∀ j, f j ≤ f i) ∧ ∀ j, f j = f i → i ≤ j

theorem IsFirst.unique {n : ℕ} {f : Fin n → EReal} {i j : Fin n} (hi : IsFirst f i) (hj : IsFirst f j) : i = j :=
  le_antisymm (hi.2 j (le_antisymm (hi.1 j) (hj.1 i))) (hj.2 i (le_antisymm (hj.1 i) (hi.1 j)))

/-- One pair stands before another: a greater value, or the same value and no greater index. -/
def Before (a b : EReal × BitVec 32) : Prop := b.1 < a.1 ∨ (a.1 = b.1 ∧ a.2.toInt ≤ b.2.toInt)

theorem Before.refl (a : EReal × BitVec 32) : Before a a := Or.inr ⟨rfl, le_refl _⟩

theorem Before.trans {a b c : EReal × BitVec 32} (h : Before a b) (k : Before b c) : Before a c := by
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩

/-- Folding by an operation that keeps whichever pair stands first: the result is one of the pairs and
    stands before all of them. -/
theorem foldl_before (f : EReal × BitVec 32 → EReal × BitVec 32 → EReal × BitVec 32)
    (hf : ∀ a b, (f a b = a ∧ Before a b) ∨ (f a b = b ∧ Before b a)) (l : List (EReal × BitVec 32)) (p : EReal × BitVec 32) :
    (l.foldl f p = p ∨ l.foldl f p ∈ l) ∧ Before (l.foldl f p) p ∧ ∀ q ∈ l, Before (l.foldl f p) q := by
  induction l generalizing p with
  | nil => exact ⟨Or.inl rfl, Before.refl p, fun q h => absurd h List.not_mem_nil⟩
  | cons q l ih =>
    obtain ⟨hm, hp, hl⟩ := ih (f p q)
    have hb : Before (f p q) p ∧ Before (f p q) q ∧ (f p q = p ∨ f p q = q) := by
      rcases hf p q with ⟨e, h⟩ | ⟨e, h⟩ <;> rw [e]
      · exact ⟨Before.refl p, h, Or.inl rfl⟩
      · exact ⟨h, Before.refl q, Or.inr rfl⟩
    rw [List.foldl_cons]
    refine ⟨?_, hp.trans hb.1, fun r hr => ?_⟩
    · rcases hm with e | e
      · rcases hb.2.2 with e' | e'
        · exact Or.inl (e.trans e')
        · exact Or.inr (by rw [e, e']; exact List.mem_cons_self)
      · exact Or.inr (List.mem_cons_of_mem _ e)
    · rcases List.mem_cons.1 hr with rfl | hr
      · exact hp.trans hb.2.1
      · exact hl r hr

open Idealize.ShloMosaic in
theorem bits_ninf : Ideal.ofBits .f32 0xFF800000#32 = ⊥ := by simp [Ideal.ofBits, Ideal.ieee]

open Idealize.ShloMosaic in
theorem bits_pinf : Ideal.ofBits .f32 0x7F800000#32 = ⊤ := by simp [Ideal.ofBits, Ideal.ieee]

open Idealize.ShloMosaic in
theorem bits_threshold : 0 ≤ Ideal.ofBits .f32 0x3D4CCCCD#32 := by
  simp [Ideal.ofBits, Ideal.ieee]
  refine mul_nonneg ?_ ?_
  · exact EReal.coe_nonneg.2 (by norm_num)
  · exact EReal.coe_nonneg.2 (by positivity)

end Cert.Pick
-- ==== Proof.KernelStep.lean ====
/-
  One trip of the kernel read at a class and a box: the row maximum, its first column, the row of words that the product picks, and the
  bits of those words.
-/
module

public import proofs.«01_k».proof.Proof.KernelWords
public import proofs.«01_k».proof.Proof.KernelLoop
public import proofs.«01_k».proof.Proof.First
public import Idealize.ShloMosaic.Lib.Pipeline.Value
public import Idealize.ShloMosaic.Lib.ValueLayoutCasts
public import Idealize.ShloMosaic.Lib.StableHlo.Predicate

@[expose] public section

set_option maxRecDepth 100000

noncomputable section

namespace Cert.KStep

open Idealize Idealize.ShloMosaic
open Cert.KernelIdeal Cert.KernelIdeal.Gen
open Cert.Pick Cert.KLoop

theorem drop_eq (c : Fin 80) (j : Fin 5120) : reduces_S80x5120_S80.drop (ValueIdx.ix2 c j) = ValueIdx.ix1 c := by
  funext b
  match b with
  | ⟨0, _⟩ => exact Fin.ext (Shape.Reduces.drop_apply_val reduces_S80x5120_S80 (ValueIdx.ix2 c j) 0)

theorem mem_fiber (c : Fin 80) (i : S80x5120.Idx) :
    i ∈ (Finset.univ.filter fun i => reduces_S80x5120_S80.drop i = ValueIdx.ix1 c) ↔ ∃ j : Fin 5120, i = ValueIdx.ix2 c j := by
  rw [Finset.mem_filter]
  constructor
  · rintro ⟨-, h⟩
    obtain ⟨c', j, rfl⟩ : ∃ (c' : Fin 80) (j : Fin 5120), i = ValueIdx.ix2 c' j := ⟨_, _, ValueIdx.eq_ix2 _⟩
    rw [drop_eq] at h
    have : c' = c := congrFun h 0
    exact ⟨j, by rw [this]⟩
  · rintro ⟨j, rfl⟩
    exact ⟨Finset.mem_univ _, drop_eq c j⟩

theorem shape_col {α : Type} (x : S80.Idx → α) (h : S80.ShapeCasts S80x1) (c : Fin 80) :
    shapeCast S80x1 x h (ValueIdx.ix2 c (0 : Fin 1)) = x (ValueIdx.ix1 c) := ValueIdx.shapeCast_a_a1_apply x h c 0

theorem along_row {α : Type} (x : S80x1.Idx → α) (h : S80x1.Broadcasts S80x5120) (c : Fin 80) (j : Fin 5120) :
    broadcastTo S80x5120 x h (ValueIdx.ix2 c j) = x (ValueIdx.ix2 c (0 : Fin 1)) :=
  broadcastTo_apply _ _ _ _ fun ax => by match ax with | ⟨0, _⟩ => rfl | ⟨1, _⟩ => rfl

theorem cols_apply (c : Fin 80) (j : Fin 5120) : cols (ValueIdx.ix2 c j) = BitVec.ofNat 32 j.val := by
  show BitVec.ofNat 32 (0 * 5120 + j.val) = _
  rw [Nat.zero_mul, Nat.zero_add]

theorem toInt_col (k : ℕ) (hk : k < 2 ^ 31) : (BitVec.ofNat 32 k).toInt = k :=
  StableHlo.Predicate.toInt_ofNat_small _ (by omega)

section
variable (s : Vec Ideal S80x5120 .f32) (c : Fin 80) (i : Fin 5120) (hi : IsFirst (fun j => s (ValueIdx.ix2 c j)) i)
include hi

theorem max_apply : k1_pay5 s (ValueIdx.ix2 c (0 : Fin 1)) = s (ValueIdx.ix2 c i) := by
  unfold k1_pay5
  rw [shape_col]
  show reduceFold reduces_S80x5120_S80 (FloatOps.maximumf (F := Ideal) (φ := .f32)) (FloatOps.ofBits (F := Ideal) .f32 0xFF800000#32) s (ValueIdx.ix1 c) = _
  rw [reduceFold_eq_fold]
  show Finset.fold (max : EReal → EReal → EReal) (Ideal.ofBits .f32 0xFF800000#32) s _ = _
  rw [bits_ninf]
  refine le_antisymm ((Finset.fold_max_le _).2 ⟨bot_le, fun y hy => ?_⟩) ((Finset.le_fold_max _).2 (Or.inr ⟨ValueIdx.ix2 c i, (mem_fiber c _).2 ⟨i, rfl⟩, le_refl _⟩))
  obtain ⟨j, rfl⟩ := (mem_fiber c y).1 hy
  exact hi.1 j

theorem valid_apply : k1_pay6 ninf s (ValueIdx.ix2 c (0 : Fin 1)) = BitVec.ofBool (decide (s (ValueIdx.ix2 c i) ≠ (⊥ : EReal))) := by
  have e : k1_pay6 ninf s (ValueIdx.ix2 c (0 : Fin 1)) = FloatOps.cmpf .one (k1_pay5 s (ValueIdx.ix2 c (0 : Fin 1))) ninf := by
    unfold k1_pay6; rfl
  have b : (ninf : Ideal .f32) = (⊥ : EReal) := bits_ninf
  rw [e, max_apply s c i hi, b]
  show Ideal.cmp .one _ _ = _
  simp [Ideal.cmp]

/-- The column words from which the least is taken. -/
def candidates (s : Vec Ideal S80x5120 .f32) : IVec S80x5120 32 :=
  select (andi (cmpf .oeq s (broadcastTo S80x5120 (k1_pay5 s) broadcasts_S80x1_S80x5120))
    (broadcastTo S80x5120 (k1_pay6 ninf s) broadcasts_S80x1_S80x5120)) cols (broadcast S80x5120 5120#32)

theorem candidates_apply (j : Fin 5120) : candidates s (ValueIdx.ix2 c j)
    = if s (ValueIdx.ix2 c j) = s (ValueIdx.ix2 c i) ∧ s (ValueIdx.ix2 c i) ≠ (⊥ : EReal) then BitVec.ofNat 32 j.val else 5120#32 := by
  have e : candidates s (ValueIdx.ix2 c j)
      = Scalar.select (IntOp.andi (FloatOps.cmpf .oeq (s (ValueIdx.ix2 c j)) (broadcastTo S80x5120 (k1_pay5 s) broadcasts_S80x1_S80x5120 (ValueIdx.ix2 c j)))
        (broadcastTo S80x5120 (k1_pay6 ninf s) broadcasts_S80x1_S80x5120 (ValueIdx.ix2 c j))) (cols (ValueIdx.ix2 c j)) 5120#32 := rfl
  rw [e, along_row, along_row, valid_apply s c i hi, max_apply s c i hi, cols_apply]
  show Scalar.select (IntOp.andi (BitVec.ofBool (decide (s (ValueIdx.ix2 c j) = s (ValueIdx.ix2 c i)))) _) _ _ = _
  by_cases h1 : s (ValueIdx.ix2 c j) = s (ValueIdx.ix2 c i) <;> by_cases h2 : s (ValueIdx.ix2 c i) = (⊥ : EReal) <;>
    simp [h1, h2, IntOp.andi, Scalar.select]

omit hi in
theorem toInt_minsi (x y : BitVec 32) : (IntOp.minsi x y).toInt = min x.toInt y.toInt := by
  unfold IntOp.minsi
  rw [BitVec.slt]
  by_cases h : x.toInt < y.toInt
  · simp [h, h.le]
  · simp [h, not_lt.1 h]

/-- The first column of the row maximum, and the column count where every score is gone. -/
def firstWord (m : EReal) (i : Fin 5120) : BitVec 32 := if m ≠ ⊥ then BitVec.ofNat 32 i.val else 5120#32

theorem first_apply : multiReductionI .minsi [1] S80 (candidates s) 2147483647#32 reduces_S80x5120_S80 rfl (ValueIdx.ix1 c)
    = firstWord (s (ValueIdx.ix2 c i)) i := by
  refine (multiReductionI_eq_fold .minsi _ _ _ _ _).trans ?_
  have key : ∀ x : BitVec 32, x.toInt ≤ (Finset.fold IKind.minsi.op 2147483647#32 (candidates s)
      (Finset.univ.filter fun i => reduces_S80x5120_S80.drop i = ValueIdx.ix1 c)).toInt
      ↔ x.toInt ≤ (2147483647#32).toInt ∧ ∀ y ∈ (Finset.univ.filter fun i => reduces_S80x5120_S80.drop i = ValueIdx.ix1 c), x.toInt ≤ (candidates s y).toInt :=
    fun x => Finset.fold_op_rel_iff_and (r := fun a b : BitVec 32 => a.toInt ≤ b.toInt) (by
      intro x y z
      show x.toInt ≤ (IntOp.minsi y z).toInt ↔ _
      rw [toInt_minsi, le_min_iff])
  have hlt := i.isLt
  have hw : (firstWord (s (ValueIdx.ix2 c i)) i).toInt ≤ 5120 := by
    unfold firstWord
    split
    · rw [toInt_col _ (by omega)]; omega
    · decide
  refine BitVec.eq_of_toInt_eq (le_antisymm ?_ ((key _).2 ⟨hw.trans (by decide), fun y hy => ?_⟩))
  · have h := ((key _).1 (le_refl _)).2 (ValueIdx.ix2 c i) ((mem_fiber c _).2 ⟨i, rfl⟩)
    rw [candidates_apply s c i hi] at h
    refine h.trans (le_of_eq ?_)
    unfold firstWord
    by_cases h2 : s (ValueIdx.ix2 c i) = (⊥ : EReal) <;> simp [h2]
  · obtain ⟨j, rfl⟩ := (mem_fiber c y).1 hy
    have hj := j.isLt
    rw [candidates_apply s c i hi]
    split
    · next h =>
      have hij : i ≤ j := hi.2 j h.1
      unfold firstWord
      rw [if_pos h.2, toInt_col _ (by omega), toInt_col _ (by omega)]
      have := Fin.le_def.1 hij
      omega
    · exact hw.trans (by decide)

theorem onehot_apply (j : Fin 5120) : k1_pay7 cols ninf s (ValueIdx.ix2 c j)
    = BitVec.ofBool (decide (s (ValueIdx.ix2 c i) ≠ (⊥ : EReal) ∧ i = j)) := by
  have e : k1_pay7 cols ninf s (ValueIdx.ix2 c j)
      = IntOp.cmpi .eq (cols (ValueIdx.ix2 c j)) (broadcastTo S80x5120 (shapeCast S80x1
          (multiReductionI .minsi [1] S80 (candidates s) 2147483647#32 reduces_S80x5120_S80 rfl) shapeCasts_S80_S80x1) broadcasts_S80x1_S80x5120 (ValueIdx.ix2 c j)) := rfl
  rw [e, along_row, shape_col, first_apply s c i hi, cols_apply]
  have hi' := i.isLt
  have hj' := j.isLt
  unfold firstWord
  show BitVec.ofBool (_ == _) = _
  refine congrArg BitVec.ofBool ?_
  rw [Bool.eq_iff_iff, beq_iff_eq, decide_eq_true_iff]
  have inj : ∀ a b : ℕ, a < 2 ^ 32 → b < 2 ^ 32 → BitVec.ofNat 32 a = BitVec.ofNat 32 b → a = b := fun a b ha hb h => by
    have := congrArg BitVec.toNat h
    rwa [BitVec.toNat_ofNat, BitVec.toNat_ofNat, Nat.mod_eq_of_lt ha, Nat.mod_eq_of_lt hb] at this
  by_cases h2 : s (ValueIdx.ix2 c i) = (⊥ : EReal)
  · simp only [h2, ne_eq, not_true_eq_false, if_false, false_and, iff_false]
    intro h
    have := inj j.val 5120 (by omega) (by norm_num) h
    omega
  · simp only [h2, ne_eq, not_false_eq_true, if_true, true_and]
    constructor
    · intro h
      exact Fin.ext (inj _ _ (by omega) (by omega) h).symm
    · rintro rfl; rfl

end

end Cert.KStep
-- ==== Proof.KernelBits.lean ====
/-
  The product of a one-hot row with the words picks one row of words, and the eight planes of bits of those words are the overlap tests
  of the eight column blocks.
-/
module

public import proofs.«01_k».proof.Proof.KernelStep
public import Idealize.ShloMosaic.Lib.Pipeline.Value
public import Idealize.ShloMosaic.Lib.ValueLayoutCasts
public import Idealize.ShloMosaic.Lib.StableHlo.Predicate

@[expose] public section

set_option maxRecDepth 100000

noncomputable section

namespace Cert.KStep

open Idealize Idealize.ShloMosaic
open Cert.KernelIdeal Cert.KernelIdeal.Gen
open Cert.Pick Cert.KLoop

/-- An integer word as a number and back. -/
theorem fptosi_toInt (w : BitVec 32) : Ideal.fptosi 32 (((w.toInt : ℝ)) : EReal) = w := by
  have h1 : -(2 ^ 31 : ℤ) ≤ w.toInt := by have := BitVec.le_toInt w; simpa using this
  have h2 : w.toInt < (2 ^ 31 : ℤ) := by have := BitVec.toInt_lt (x := w); simpa using this
  unfold Ideal.fptosi
  show BitVec.ofInt 32 (max _ (min _ (if (0 : ℝ) ≤ (w.toInt : ℝ) then ⌊(w.toInt : ℝ)⌋ else ⌈(w.toInt : ℝ)⌉))) = w
  have h3 : (if (0 : ℝ) ≤ (w.toInt : ℝ) then ⌊(w.toInt : ℝ)⌋ else ⌈(w.toInt : ℝ)⌉) = w.toInt := by
    split <;> simp
  rw [h3, max_eq_right, min_eq_right]
  · simp
  · norm_num; omega
  · refine le_min ?_ ?_ <;> norm_num <;> omega

/-- A one-hot word as a number. -/
theorem bit_number (p : Prop) [Decidable p] : FloatOps.sitofp (F := Ideal) .f32 ((BitVec.ofBool (decide p)).setWidth 32) = if p then (1 : EReal) else 0 := by
  show ((((BitVec.ofBool (decide p)).setWidth 32).toInt : ℝ) : EReal) = _
  by_cases h : p <;> simp [h]

abbrev dd := dot_S80x5120_S5120x640_S80x640_1_0_0_1_n_n

theorem dd_lhs (c : Fin 80) (q : Fin 640) (k : Fin 5120) :
    dd.lhsIdx (ValueIdx.ix2 c q) ((ValueIdx.contrEquiv1 dd 5120 rfl rfl).symm k) = ValueIdx.ix2 c k := by
  have hk := ValueIdx.contrEquiv1_symm_val dd 5120 rfl rfl k
  funext a
  match a with
  | ⟨0, _⟩ => rfl
  | ⟨1, _⟩ => exact Fin.ext hk

theorem dd_rhs (c : Fin 80) (q : Fin 640) (k : Fin 5120) :
    dd.rhsIdx (ValueIdx.ix2 c q) ((ValueIdx.contrEquiv1 dd 5120 rfl rfl).symm k) = ValueIdx.ix2 k q := by
  have hk := ValueIdx.contrEquiv1_symm_val dd 5120 rfl rfl k
  funext a
  match a with
  | ⟨0, _⟩ => exact Fin.ext hk
  | ⟨1, _⟩ => rfl

section
variable (W : Vec Ideal S5120x640 .f32) (P : Fin 5120 → Fin 640 → BitVec 32)
  (hW : ∀ a q, W (ValueIdx.ix2 a q) = FloatOps.sitofp (F := Ideal) .f32 (P a q))
variable (s : Vec Ideal S80x5120 .f32) (c : Fin 80) (i : Fin 5120) (hi : IsFirst (fun j => s (ValueIdx.ix2 c j)) i)
include hW hi

/-- The product picks the row of words of the first column, or zeros. -/
theorem picked_word (q : Fin 640) : k1_pay8 cols ninf s W (ValueIdx.ix2 c q)
    = if s (ValueIdx.ix2 c i) ≠ (⊥ : EReal) then P i q else 0#32 := by
  have e : k1_pay8 cols ninf s W (ValueIdx.ix2 c q)
      = Ideal.fptosi 32 (FloatOps.matmul (F := Ideal) (φ₁ := .f32) (φ₂ := .f32) dd none (sitofp .f32 (extui 32 (k1_pay7 cols ninf s) natLt_1_32))
          (shapeCast S5120x640 W shapeCasts_S5120x640_S5120x640) (constant S80x640 .f32 0x00000000#32) (ValueIdx.ix2 c q)) := by
    unfold k1_pay8; rfl
  rw [e, Ideal.matmul_constant_zero_apply, ← Equiv.sum_comp (ValueIdx.contrEquiv1 dd 5120 rfl rfl).symm]
  have hl : ∀ k : Fin 5120, (sitofp (F := Ideal) .f32 (extui 32 (k1_pay7 cols ninf s) natLt_1_32)) (ValueIdx.ix2 c k)
      = if s (ValueIdx.ix2 c i) ≠ (⊥ : EReal) ∧ i = k then (1 : EReal) else 0 := fun k => by
    have e2 : (sitofp (F := Ideal) .f32 (extui 32 (k1_pay7 cols ninf s) natLt_1_32)) (ValueIdx.ix2 c k)
        = FloatOps.sitofp (F := Ideal) .f32 ((k1_pay7 cols ninf s (ValueIdx.ix2 c k)).setWidth 32) := rfl
    rw [e2, onehot_apply s c i hi, bit_number]
  have hs : (∑ k : Fin 5120, sitofp (F := Ideal) .f32 (extui 32 (k1_pay7 cols ninf s) natLt_1_32) (dd.lhsIdx (ValueIdx.ix2 c q) ((ValueIdx.contrEquiv1 dd 5120 rfl rfl).symm k))
        * shapeCast S5120x640 W shapeCasts_S5120x640_S5120x640 (dd.rhsIdx (ValueIdx.ix2 c q) ((ValueIdx.contrEquiv1 dd 5120 rfl rfl).symm k)))
      = ∑ k : Fin 5120, (if s (ValueIdx.ix2 c i) ≠ (⊥ : EReal) ∧ i = k then (1 : EReal) else 0) * (((P k q).toInt : ℝ) : EReal) := by
    refine Finset.sum_congr rfl fun k _ => ?_
    rw [dd_lhs, dd_rhs, hl, shapeCast_self, hW]
    rfl
  rw [hs]
  by_cases hb : s (ValueIdx.ix2 c i) = (⊥ : EReal)
  · simp only [hb, ne_eq, not_true_eq_false, false_and, if_false, zero_mul, Finset.sum_const_zero]
    have := fptosi_toInt 0#32
    simpa using this
  · simp only [hb, ne_eq, not_false_eq_true, true_and, if_true]
    rw [Finset.sum_eq_single i (fun k _ hk => by rw [if_neg (Ne.symm hk), zero_mul]) (fun h => absurd (Finset.mem_univ _) h), if_pos rfl, one_mul, fptosi_toInt]

end

/-- Plane `l` of the bits of the words. -/
def plane (v : IVec S80x640 32) (l : Fin 8) : IVec S80x640 32 := andi (shrsi v (broadcast S80x640 (BitVec.ofNat 32 l.val))) (broadcast S80x640 1#32)

/-- The eight planes beside each other. -/
def planes (v : IVec S80x640 32) : IVec S80x5120 32 :=
  concatenate S80x5120 1 [⟨S80x640, plane v 0⟩, ⟨S80x640, plane v 1⟩, ⟨S80x640, plane v 2⟩, ⟨S80x640, plane v 3⟩, ⟨S80x640, plane v 4⟩,
    ⟨S80x640, plane v 5⟩, ⟨S80x640, plane v 6⟩, ⟨S80x640, plane v 7⟩]
    concatenates_S80x640_S80x640_S80x640_S80x640_S80x640_S80x640_S80x640_S80x640_S80x5120_d1

theorem planes_apply (v : IVec S80x640 32) (c : Fin 80) (l : Fin 8) (q : Fin 640) :
    planes v (ValueIdx.ix2 c (KWord.lane l.val l.isLt q)) = plane v l (ValueIdx.ix2 c q) := by
  have hl := l.isLt
  have hq := q.isLt
  refine concatenate_ofFn_apply (t := S80x5120) (s₁ := S80x640) (1 : Fin 2) (N := 8) (plane v) _ rfl 640 rfl
    (ValueIdx.ix2 c (KWord.lane l.val l.isLt q)) l ?_ (ValueIdx.ix2 c q) ?_ fun b hb => ?_
  · show (640 * l.val + q.val) / 640 = l.val
    omega
  · show q.val = (640 * l.val + q.val) % 640
    omega
  · match b with
    | ⟨0, _⟩ => rfl
    | ⟨1, _⟩ => exact absurd rfl hb

/-- Bit `l` of a packed word is the bit of plane `l`. -/
theorem pack_bit (h : (l : ℕ) → l < 8 → BitVec 1) (l : Fin 8) :
    IntOp.cmpi .eq (IntOp.andi (IntOp.shrsi .vector (KWord.pack h) (BitVec.ofNat 32 l.val)) 1#32) 1#32 = h l.val l.isLt := by
  have key : ∀ (b0 b1 b2 b3 b4 b5 b6 b7 : BitVec 1) (l : Fin 8), IntOp.cmpi .eq (IntOp.andi (IntOp.shrsi .vector
      (KWord.pack fun l _ => if l = 0 then b0 else if l = 1 then b1 else if l = 2 then b2 else if l = 3 then b3 else if l = 4 then b4
        else if l = 5 then b5 else if l = 6 then b6 else b7) (BitVec.ofNat 32 l.val)) 1#32) 1#32
      = if l.val = 0 then b0 else if l.val = 1 then b1 else if l.val = 2 then b2 else if l.val = 3 then b3 else if l.val = 4 then b4
        else if l.val = 5 then b5 else if l.val = 6 then b6 else b7 := by
    decide +kernel
  have e := key (h 0 (by omega)) (h 1 (by omega)) (h 2 (by omega)) (h 3 (by omega)) (h 4 (by omega)) (h 5 (by omega)) (h 6 (by omega)) (h 7 (by omega)) l
  refine Eq.trans e ?_
  match l with
  | 0 => rfl
  | 1 => rfl
  | 2 => rfl
  | 3 => rfl
  | 4 => rfl
  | 5 => rfl
  | 6 => rfl
  | 7 => rfl

/-- One trip's scores as one selection. -/
theorem nextS_eq (W : Vec Ideal S5120x640 .f32) (s : Vec Ideal S80x5120 .f32) : nextS W s
    = shapeCast S80x5120 (select (andi (broadcastTo S80x5120 (k1_pay6 ninf s) broadcasts_S80x1_S80x5120)
        (ori (cmpi .eq (planes (k1_pay8 cols ninf s W)) (broadcast S80x5120 1#32)) (k1_pay7 cols ninf s))) (broadcast S80x5120 (ninf : Ideal .f32)) s)
      shapeCasts_S80x5120_S80x5120 := by
  unfold nextS k1_pay3 k1_pay9 k1_pay10 k1_pay11 k1_pay12 k1_pay13 planes plane
  rfl

section
variable (W : Vec Ideal S5120x640 .f32) (H : Fin 5120 → Fin 5120 → BitVec 1)
  (hW : ∀ a q, W (ValueIdx.ix2 a q) = FloatOps.sitofp (F := Ideal) .f32 (KWord.pack fun l hl => H a (KWord.lane l hl q)))
variable (s : Vec Ideal S80x5120 .f32) (c : Fin 80) (i : Fin 5120) (hi : IsFirst (fun j => s (ValueIdx.ix2 c j)) i)
include hi

include hW in
theorem nextS_apply (j : Fin 5120) : nextS W s (ValueIdx.ix2 c j)
    = if s (ValueIdx.ix2 c i) ≠ (⊥ : EReal) ∧ (i = j ∨ H i j = 1#1) then (⊥ : EReal) else s (ValueIdx.ix2 c j) := by
  obtain ⟨l, q, rfl⟩ : ∃ (l : Fin 8) (q : Fin 640), j = KWord.lane l.val l.isLt q :=
    ⟨⟨j.val / 640, by have := j.isLt; omega⟩, ⟨j.val % 640, Nat.mod_lt _ (by norm_num)⟩, Fin.ext (by
      show j.val = 640 * (j.val / 640) + j.val % 640
      omega)⟩
  have b : (ninf : Ideal .f32) = (⊥ : EReal) := bits_ninf
  rw [nextS_eq, shapeCast_self]
  show Scalar.select (IntOp.andi (broadcastTo S80x5120 (k1_pay6 ninf s) broadcasts_S80x1_S80x5120 (ValueIdx.ix2 c _))
    (IntOp.ori (IntOp.cmpi .eq (planes (k1_pay8 cols ninf s W) (ValueIdx.ix2 c _)) 1#32) (k1_pay7 cols ninf s (ValueIdx.ix2 c _)))) (ninf : Ideal .f32) (s (ValueIdx.ix2 c _)) = _
  have hp : plane (k1_pay8 cols ninf s W) l (ValueIdx.ix2 c q)
      = IntOp.andi (IntOp.shrsi .vector (k1_pay8 cols ninf s W (ValueIdx.ix2 c q)) (BitVec.ofNat 32 l.val)) 1#32 := rfl
  rw [along_row, valid_apply s c i hi, onehot_apply s c i hi, planes_apply, hp,
    picked_word W (fun a q => KWord.pack fun l hl => H a (KWord.lane l hl q)) hW s c i hi, b]
  by_cases hb : s (ValueIdx.ix2 c i) = (⊥ : EReal)
  · simp [hb, IntOp.andi, Scalar.select]
  · simp only [hb, ne_eq, not_false_eq_true, if_true, true_and]
    rw [pack_bit]
    show Scalar.select (IntOp.andi _ (IntOp.ori (H i (KWord.lane l.val l.isLt q)) _)) _ _ = _
    generalize H i (KWord.lane l.val l.isLt q) = w
    rcases BitVec.eq_zero_or_eq_one w with rfl | rfl <;> by_cases hj : i = KWord.lane l.val l.isLt q <;>
      simp [hj, IntOp.andi, IntOp.ori, Scalar.select]

theorem nextO_apply (o : Vec Ideal S80x5120 .f32) (j : Fin 5120) : nextO s o (ValueIdx.ix2 c j)
    = if s (ValueIdx.ix2 c i) ≠ (⊥ : EReal) ∧ i = j then s (ValueIdx.ix2 c j) else o (ValueIdx.ix2 c j) := by
  have e : nextO s o (ValueIdx.ix2 c j) = Scalar.select (k1_pay7 cols ninf s (ValueIdx.ix2 c j))
      (broadcastTo S80x5120 (shapeCast S80x1 (k1_pay5 s) shapeCasts_S80x1_S80x1) broadcasts_S80x1_S80x5120 (ValueIdx.ix2 c j))
      (shapeCast S80x5120 o shapeCasts_S80x5120_S80x5120 (ValueIdx.ix2 c j)) := by
    unfold nextO k1_pay4; rfl
  rw [e, along_row, shapeCast_self, shapeCast_self, onehot_apply s c i hi, max_apply s c i hi]
  by_cases hb : s (ValueIdx.ix2 c i) = (⊥ : EReal)
  · simp [hb, Scalar.select]
  · by_cases hj : i = j
    · subst hj; simp [hb, Scalar.select]
    · simp [hj, Scalar.select]

end

end Cert.KStep
-- ==== Proof.RefRun.lean ====
/-
  The reference's run: its operations as lists, one list per step of the algorithm, and the theorem that every
  execution ends with each buffer at the fold of those lists.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 8192

noncomputable section

namespace Cert.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The operations -/

/-- Two columns of indices side by side. -/
def pairCols (a b : (⟨S80x1, .i32⟩ : BufTy).Contents (Elt F)) : (⟨S80x2, .i32⟩ : BufTy).Contents (Elt F) :=
  concatenate S80x2 1 [⟨S80x1, a⟩, ⟨S80x1, b⟩] concatenates_S80x1_S80x1_S80x2_d1

/-- The arguments unpacked, the score threshold. -/
abbrev pre0 : List (HloOp τ sig (Elt F)) :=
  [ StableHlo.reshape main_arg0 main_v0 (rfl : (.f32 : EltTy) = .f32) shapeCasts_S1x5000x4_S5000x4,
    StableHlo.reshape main_arg1 main_v1 (rfl : (.f32 : EltTy) = .f32) shapeCasts_S1x5000x80_S5000x80,
    StableHlo.nullary main_v2 (iotaInDim S80 32 0),
    StableHlo.nullary main_cst (constant S_ .f32 0x3D4CCCCD#32),
    StableHlo.unary main_cst main_v3 (broadcastInDim S5000x80 ![] bcast_S_S5000x80 : (⟨S_, .f32⟩ : BufTy).Contents (Elt F) → (⟨S5000x80, .f32⟩ : BufTy).Contents (Elt F)),
    StableHlo.binary main_v1 main_v3 main_v4 (cmpf .ogt : (⟨S5000x80, .f32⟩ : BufTy).Contents (Elt F) → (⟨S5000x80, .f32⟩ : BufTy).Contents (Elt F) → (⟨S5000x80, .i1⟩ : BufTy).Contents (Elt F)),
    StableHlo.nullary main_cst_0 (constant S_ .f32 0xFF800000#32) ]
theorem pre0_sub : (pre0 : List (HloOp τ sig (Elt F))).Forall fun op => op.bufs ⊆ tcRefs τ sig :=
  ⟨reshape_bufs_sub .., reshape_bufs_sub .., nullary_bufs_sub .., nullary_bufs_sub .., unary_bufs_sub .., binary_bufs_sub .., nullary_bufs_sub ..⟩
theorem pre0_fresh : (pre0 : List (HloOp τ sig (Elt F))).Forall fun op => op.fresh = ∅ := forall_fresh_of_map rfl
/-- What it writes. -/
abbrev pre0_W : List (Ref sig .tc) := [main_v0, main_v1, main_v2, main_cst, main_v3, main_v4, main_cst_0]
theorem pre0_writes : (pre0 : List (HloOp τ sig (Elt F))).Forall fun op => op.writes ⊆ (pre0_W.map (Proc.devRef (τ := τ) .tc)).toFinset :=
  forall_writes_sub_of_map rfl

/-- Scores at or below the threshold become −∞. -/
abbrev pre1 : List (HloOp τ sig (Elt F)) :=
  [ StableHlo.TRef.unary (.of main_cst_0 : StableHlo.TRef sig ⟨S_, .f32⟩) (.of main_call0_v0 : StableHlo.TRef sig ⟨S5000x80, .f32⟩) (broadcastInDim S5000x80 ![] bcast_S_S5000x80),
    StableHlo.TRef.ternary (.of main_v4 : StableHlo.TRef sig ⟨S5000x80, .i1⟩) (.of main_v1 : StableHlo.TRef sig ⟨S5000x80, .f32⟩) (.of main_call0_v0 : StableHlo.TRef sig ⟨S5000x80, .f32⟩) (.of main_v5 : StableHlo.TRef sig ⟨S5000x80, .f32⟩) select ]
theorem pre1_sub : (pre1 : List (HloOp τ sig (Elt F))).Forall fun op => op.bufs ⊆ tcRefs τ sig :=
  ⟨unary_bufs_sub .., ternary_bufs_sub ..⟩
theorem pre1_fresh : (pre1 : List (HloOp τ sig (Elt F))).Forall fun op => op.fresh = ∅ := forall_fresh_of_map rfl
/-- What it writes. -/
abbrev pre1_W : List (Ref sig .tc) := [main_call0_v0, main_v5]
theorem pre1_writes : (pre1 : List (HloOp τ sig (Elt F))).Forall fun op => op.writes ⊆ (pre1_W.map (Proc.devRef (τ := τ) .tc)).toFinset :=
  forall_writes_sub_of_map rfl

/-- The carried values before the first trip. -/
abbrev pre2 : List (HloOp τ sig (Elt F)) :=
  [ StableHlo.nullary main_cst_1 (constant S_ .f32 0x00000000#32),
    StableHlo.unary main_cst_1 main_v6 (broadcastInDim S5000x80 ![] bcast_S_S5000x80 : (⟨S_, .f32⟩ : BufTy).Contents (Elt F) → (⟨S5000x80, .f32⟩ : BufTy).Contents (Elt F)),
    StableHlo.nullary main_cst_2 (constant S_ .f32 0xFF800000#32),
    StableHlo.nullary main_c (constantI S_ 32 0#32),
    StableHlo.nullary main_c_3 (constantI S_ 32 0#32),
    StableHlo.unary main_v2 main_v7_0 id,
    StableHlo.unary main_v0 main_v7_1 id,
    StableHlo.unary main_cst_2 main_v7_2 id,
    StableHlo.unary main_c_3 main_v7_3 id,
    StableHlo.unary main_c main_v7_4 id,
    StableHlo.unary main_v5 main_v7_5 id,
    StableHlo.unary main_v6 main_v7_6 id ]
theorem pre2_sub : (pre2 : List (HloOp τ sig (Elt F))).Forall fun op => op.bufs ⊆ tcRefs τ sig :=
  ⟨nullary_bufs_sub .., unary_bufs_sub .., nullary_bufs_sub .., nullary_bufs_sub .., nullary_bufs_sub .., unary_bufs_sub .., unary_bufs_sub .., unary_bufs_sub .., unary_bufs_sub .., unary_bufs_sub .., unary_bufs_sub .., unary_bufs_sub ..⟩
theorem pre2_fresh : (pre2 : List (HloOp τ sig (Elt F))).Forall fun op => op.fresh = ∅ := forall_fresh_of_map rfl
/-- What it writes. -/
abbrev pre2_W : List (Ref sig .tc) := [main_cst_1, main_v6, main_cst_2, main_c, main_c_3, main_v7_0, main_v7_1, main_v7_2, main_v7_3, main_v7_4, main_v7_5, main_v7_6]
theorem pre2_writes : (pre2 : List (HloOp τ sig (Elt F))).Forall fun op => op.writes ⊆ (pre2_W.map (Proc.devRef (τ := τ) .tc)).toFinset :=
  forall_writes_sub_of_map rfl

/-- The trip number's successor. -/
abbrev trip0 : List (HloOp τ sig (Elt F)) :=
  [ StableHlo.nullary main_while0b_c_10 (constantI S_ 32 1#32),
    StableHlo.binary main_v7_4 main_while0b_c_10 main_while0b_v9 (addi : (⟨S_, .i32⟩ : BufTy).Contents (Elt F) → (⟨S_, .i32⟩ : BufTy).Contents (Elt F) → (⟨S_, .i32⟩ : BufTy).Contents (Elt F)) ]
theorem trip0_sub : (trip0 : List (HloOp τ sig (Elt F))).Forall fun op => op.bufs ⊆ tcRefs τ sig :=
  ⟨nullary_bufs_sub .., binary_bufs_sub ..⟩
theorem trip0_fresh : (trip0 : List (HloOp τ sig (Elt F))).Forall fun op => op.fresh = ∅ := forall_fresh_of_map rfl
/-- What it writes. -/
abbrev trip0_W : List (Ref sig .tc) := [main_while0b_c_10, main_while0b_v9]
theorem trip0_writes : (trip0 : List (HloOp τ sig (Elt F))).Forall fun op => op.writes ⊆ (trip0_W.map (Proc.devRef (τ := τ) .tc)).toFinset :=
  forall_writes_sub_of_map rfl

/-- The arg-max of every class. -/
abbrev trip1 : List (HloOp τ sig (Elt F)) :=
  [ StableHlo.TRef.nullary (.of main_while0b_call1_v0 : StableHlo.TRef sig ⟨S5000x80, .i32⟩) (iotaInDim S5000x80 32 0),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_v7_5 : StableHlo.TRef sig ⟨S5000x80, .f32⟩) (.of main_while0b_call1_v0 : StableHlo.TRef sig ⟨S5000x80, .i32⟩) (.of main_while0b_call1_cst : StableHlo.TRef sig ⟨S_, .f32⟩) (.of main_while0b_call1_c : StableHlo.TRef sig ⟨S_, .i32⟩) (.of main_while0b_call1_v1_0 : StableHlo.TRef sig ⟨S80, .f32⟩) (fun x y u v j => (Host.argReduce reducer_argmax_f32_i32 x y u v reducesTo_S5000x80_S80_d0 h_S_ j).1),
    StableHlo.TRef.quaternary (.of main_v7_5 : StableHlo.TRef sig ⟨S5000x80, .f32⟩) (.of main_while0b_call1_v0 : StableHlo.TRef sig ⟨S5000x80, .i32⟩) (.of main_while0b_call1_cst : StableHlo.TRef sig ⟨S_, .f32⟩) (.of main_while0b_call1_c : StableHlo.TRef sig ⟨S_, .i32⟩) (.of main_while0b_v10 : StableHlo.TRef sig ⟨S80, .i32⟩) (fun x y u v j => (Host.argReduce reducer_argmax_f32_i32 x y u v reducesTo_S5000x80_S80_d0 h_S_ j).2) ]
theorem trip1_sub : (trip1 : List (HloOp τ sig (Elt F))).Forall fun op => op.bufs ⊆ tcRefs τ sig :=
  ⟨nullary_bufs_sub .., nullary_bufs_sub .., nullary_bufs_sub .., quaternary_bufs_sub .., quaternary_bufs_sub ..⟩
theorem trip1_fresh : (trip1 : List (HloOp τ sig (Elt F))).Forall fun op => op.fresh = ∅ := forall_fresh_of_map rfl
/-- What it writes. -/
abbrev trip1_W : List (Ref sig .tc) := [main_while0b_call1_v0, main_while0b_call1_cst, main_while0b_call1_c, main_while0b_call1_v1_0, main_while0b_v10]
theorem trip1_writes : (trip1 : List (HloOp τ sig (Elt F))).Forall fun op => op.writes ⊆ (trip1_W.map (Proc.devRef (τ := τ) .tc)).toFinset :=
  forall_writes_sub_of_map rfl

/-- Each class's best score, and whether it is finite. -/
abbrev trip2 : List (HloOp τ sig (Elt F)) :=
  [ StableHlo.nullary main_while0b_c_11 (constantI S_ 32 0#32),
    StableHlo.unary main_while0b_c_11 main_while0b_v11 (broadcastInDim S80 ![] bcast_S_S80 : (⟨S_, .i32⟩ : BufTy).Contents (Elt F) → (⟨S80, .i32⟩ : BufTy).Contents (Elt F)),
    StableHlo.binary main_while0b_v10 main_while0b_v11 main_while0b_v12 (cmpi .slt : (⟨S80, .i32⟩ : BufTy).Contents (Elt F) → (⟨S80, .i32⟩ : BufTy).Contents (Elt F) → (⟨S80, .i1⟩ : BufTy).Contents (Elt F)),
    StableHlo.nullary main_while0b_c_12 (constantI S_ 32 5000#32),
    StableHlo.unary main_while0b_c_12 main_while0b_v13 (broadcastInDim S80 ![] bcast_S_S80 : (⟨S_, .i32⟩ : BufTy).Contents (Elt F) → (⟨S80, .i32⟩ : BufTy).Contents (Elt F)),
    StableHlo.binary main_while0b_v10 main_while0b_v13 main_while0b_v14 (addi : (⟨S80, .i32⟩ : BufTy).Contents (Elt F) → (⟨S80, .i32⟩ : BufTy).Contents (Elt F) → (⟨S80, .i32⟩ : BufTy).Contents (Elt F)),
    StableHlo.ternary main_while0b_v12 main_while0b_v14 main_while0b_v10 main_while0b_v15 (select : (⟨S80, .i1⟩ : BufTy).Contents (Elt F) → (⟨S80, .i32⟩ : BufTy).Contents (Elt F) → (⟨S80, .i32⟩ : BufTy).Contents (Elt F) → (⟨S80, .i32⟩ : BufTy).Contents (Elt F)),
    StableHlo.nullary main_while0b_c_13 (constantI S_ 32 0#32),
    StableHlo.unary main_while0b_c_13 main_while0b_v16 (broadcastInDim S80 ![] bcast_S_S80 : (⟨S_, .i32⟩ : BufTy).Contents (Elt F) → (⟨S80, .i32⟩ : BufTy).Contents (Elt F)),
    StableHlo.binary main_v7_0 main_while0b_v16 main_while0b_v17 (cmpi .slt : (⟨S80, .i32⟩ : BufTy).Contents (Elt F) → (⟨S80, .i32⟩ : BufTy).Contents (Elt F) → (⟨S80, .i1⟩ : BufTy).Contents (Elt F)),
    StableHlo.nullary main_while0b_c_14 (constantI S_ 32 80#32),
    StableHlo.unary main_while0b_c_14 main_while0b_v18 (broadcastInDim S80 ![] bcast_S_S80 : (⟨S_, .i32⟩ : BufTy).Contents (Elt F) → (⟨S80, .i32⟩ : BufTy).Contents (Elt F)),
    StableHlo.binary main_v7_0 main_while0b_v18 main_while0b_v19 (addi : (⟨S80, .i32⟩ : BufTy).Contents (Elt F) → (⟨S80, .i32⟩ : BufTy).Contents (Elt F) → (⟨S80, .i32⟩ : BufTy).Contents (Elt F)),
    StableHlo.ternary main_while0b_v17 main_while0b_v19 main_v7_0 main_while0b_v20 (select : (⟨S80, .i1⟩ : BufTy).Contents (Elt F) → (⟨S80, .i32⟩ : BufTy).Contents (Elt F) → (⟨S80, .i32⟩ : BufTy).Contents (Elt F) → (⟨S80, .i32⟩ : BufTy).Contents (Elt F)),
    StableHlo.unary main_while0b_v15 main_while0b_v21 (broadcastInDim S80x1 ![0] bcast_S80_S80x1_0 : (⟨S80, .i32⟩ : BufTy).Contents (Elt F) → (⟨S80x1, .i32⟩ : BufTy).Contents (Elt F)),
    StableHlo.unary main_while0b_v20 main_while0b_v22 (broadcastInDim S80x1 ![0] bcast_S80_S80x1_0 : (⟨S80, .i32⟩ : BufTy).Contents (Elt F) → (⟨S80x1, .i32⟩ : BufTy).Contents (Elt F)),
    StableHlo.binary main_while0b_v21 main_while0b_v22 main_while0b_v23 ((fun a b => concatenate S80x2 1 [⟨S80x1, a⟩, ⟨S80x1, b⟩] concatenates_S80x1_S80x1_S80x2_d1) : (⟨S80x1, .i32⟩ : BufTy).Contents (Elt F) → (⟨S80x1, .i32⟩ : BufTy).Contents (Elt F) → (⟨S80x2, .i32⟩ : BufTy).Contents (Elt F)),
    StableHlo.binary main_v7_5 main_while0b_v23 main_while0b_v24 ((fun x i => Host.gather gather_S5000x80_S80x2_S80_n_01_n_n_01_1_11 x i) : (⟨S5000x80, .f32⟩ : BufTy).Contents (Elt F) → (⟨S80x2, .i32⟩ : BufTy).Contents (Elt F) → (⟨S80, .f32⟩ : BufTy).Contents (Elt F)),
    StableHlo.unary main_while0b_v24 main_while0b_v25 (Host.absf : (⟨S80, .f32⟩ : BufTy).Contents (Elt F) → (⟨S80, .f32⟩ : BufTy).Contents (Elt F)),
    StableHlo.nullary main_while0b_cst_15 (constant S_ .f32 0x7F800000#32),
    StableHlo.unary main_while0b_cst_15 main_while0b_v26 (broadcastInDim S80 ![] bcast_S_S80 : (⟨S_, .f32⟩ : BufTy).Contents (Elt F) → (⟨S80, .f32⟩ : BufTy).Contents (Elt F)),
    StableHlo.binary main_while0b_v25 main_while0b_v26 main_while0b_v27 (cmpf .olt : (⟨S80, .f32⟩ : BufTy).Contents (Elt F) → (⟨S80, .f32⟩ : BufTy).Contents (Elt F) → (⟨S80, .i1⟩ : BufTy).Contents (Elt F)) ]
theorem trip2_sub : (trip2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., nullary_bufs_sub .., unary_bufs_sub .., binary_bufs_sub ..⟩
theorem trip2_fresh : (trip2 : List (HloOp τ sig (Elt F))).Forall fun op => op.fresh = ∅ := forall_fresh_of_map rfl
/-- What it writes. -/
abbrev trip2_W : List (Ref sig .tc) := [main_while0b_c_11, main_while0b_v11, main_while0b_v12, main_while0b_c_12, main_while0b_v13, main_while0b_v14, main_while0b_v15, main_while0b_c_13, main_while0b_v16, main_while0b_v17, main_while0b_c_14, main_while0b_v18, main_while0b_v19, main_while0b_v20, main_while0b_v21, main_while0b_v22, main_while0b_v23, main_while0b_v24, main_while0b_v25, main_while0b_cst_15, main_while0b_v26, main_while0b_v27]
theorem trip2_writes : (trip2 : List (HloOp τ sig (Elt F))).Forall fun op => op.writes ⊆ (trip2_W.map (Proc.devRef (τ := τ) .tc)).toFinset :=
  forall_writes_sub_of_map rfl

/-- Each class's best box. -/
abbrev trip3 : List (HloOp τ sig (Elt F)) :=
  [ StableHlo.nullary main_while0b_c_16 (constantI S_ 32 0#32),
    StableHlo.unary main_while0b_c_16 main_while0b_v28 (broadcastInDim S80 ![] bcast_S_S80 : (⟨S_, .i32⟩ : BufTy).Contents (Elt F) → (⟨S80, .i32⟩ : BufTy).Contents (Elt F)),
    StableHlo.binary main_while0b_v10 main_while0b_v28 main_while0b_v29 (cmpi .slt : (⟨S80, .i32⟩ : BufTy).Contents (Elt F) → (⟨S80, .i32⟩ : BufTy).Contents (Elt F) → (⟨S80, .i1⟩ : BufTy).Contents (Elt F)),
    StableHlo.nullary main_while0b_c_17 (constantI S_ 32 5000#32),
    StableHlo.unary main_while0b_c_17 main_while0b_v30 (broadcastInDim S80 ![] bcast_S_S80 : (⟨S_, .i32⟩ : BufTy).Contents (Elt F) → (⟨S80, .i32⟩ : BufTy).Contents (Elt F)),
    StableHlo.binary main_while0b_v10 main_while0b_v30 main_while0b_v31 (addi : (⟨S80, .i32⟩ : BufTy).Contents (Elt F) → (⟨S80, .i32⟩ : BufTy).Contents (Elt F) → (⟨S80, .i32⟩ : BufTy).Contents (Elt F)),
    StableHlo.ternary main_while0b_v29 main_while0b_v31 main_while0b_v10 main_while0b_v32 (select : (⟨S80, .i1⟩ : BufTy).Contents (Elt F) → (⟨S80, .i32⟩ : BufTy).Contents (Elt F) → (⟨S80, .i32⟩ : BufTy).Contents (Elt F) → (⟨S80, .i32⟩ : BufTy).Contents (Elt F)),
    StableHlo.unary main_while0b_v32 main_while0b_v33 (broadcastInDim S80x1 ![0] bcast_S80_S80x1_0 : (⟨S80, .i32⟩ : BufTy).Contents (Elt F) → (⟨S80x1, .i32⟩ : BufTy).Contents (Elt F)),
    StableHlo.binary main_v7_1 main_while0b_v33 main_while0b_v34 ((fun x i => Host.gather gather_S5000x4_S80x1_S80x4_1_0_n_n_0_1_14 x i) : (⟨S5000x4, .f32⟩ : BufTy).Contents (Elt F) → (⟨S80x1, .i32⟩ : BufTy).Contents (Elt F) → (⟨S80x4, .f32⟩ : BufTy).Contents (Elt F)) ]
theorem trip3_sub : (trip3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem trip3_fresh : (trip3 : List (HloOp τ sig (Elt F))).Forall fun op => op.fresh = ∅ := forall_fresh_of_map rfl
/-- What it writes. -/
abbrev trip3_W : List (Ref sig .tc) := [main_while0b_c_16, main_while0b_v28, main_while0b_v29, main_while0b_c_17, main_while0b_v30, main_while0b_v31, main_while0b_v32, main_while0b_v33, main_while0b_v34]
theorem trip3_writes : (trip3 : List (HloOp τ sig (Elt F))).Forall fun op => op.writes ⊆ (trip3_W.map (Proc.devRef (τ := τ) .tc)).toFinset :=
  forall_writes_sub_of_map rfl

/-- The intersection areas. -/
abbrev trip4 : List (HloOp τ sig (Elt F)) :=
  [ StableHlo.unary main_while0b_v34 main_while0b_v35 ((extractStridedSlice S80x1 ![0, 0] · slices_S80x4_S80x1_0_0) : (⟨S80x4, .f32⟩ : BufTy).Contents (Elt F) → (⟨S80x1, .f32⟩ : BufTy).Contents (Elt F)),
    StableHlo.reshape main_while0b_v35 main_while0b_v36 (rfl : (.f32 : EltTy) = .f32) shapeCasts_S80x1_S80,
    StableHlo.unary main_while0b_v36 main_while0b_v37 (broadcastInDim S1x80 ![1] bcast_S80_S1x80_1 : (⟨S80, .f32⟩ : BufTy).Contents (Elt F) → (⟨S1x80, .f32⟩ : BufTy).Contents (Elt F)),
    StableHlo.unary main_v7_1 main_while0b_v38 ((extractStridedSlice S5000x1 ![0, 0] · slices_S5000x4_S5000x1_0_0) : (⟨S5000x4, .f32⟩ : BufTy).Contents (Elt F) → (⟨S5000x1, .f32⟩ : BufTy).Contents (Elt F)),
    StableHlo.unary main_while0b_v37 main_while0b_v39 (broadcastInDim S5000x80 ![0, 1] bcast_S1x80_S5000x80_0_1 : (⟨S1x80, .f32⟩ : BufTy).Contents (Elt F) → (⟨S5000x80, .f32⟩ : BufTy).Contents (Elt F)),
    StableHlo.unary main_while0b_v38 main_while0b_v40 (broadcastInDim S5000x80 ![0, 1] bcast_S5000x1_S5000x80_0_1 : (⟨S5000x1, .f32⟩ : BufTy).Contents (Elt F) → (⟨S5000x80, .f32⟩ : BufTy).Contents (Elt F)),
    StableHlo.binary main_while0b_v39 main_while0b_v40 main_while0b_v41 (maximumf : (⟨S5000x80, .f32⟩ : BufTy).Contents (Elt F) → (⟨S5000x80, .f32⟩ : BufTy).Contents (Elt F) → (⟨S5000x80, .f32⟩ : BufTy).Contents (Elt F)),
    StableHlo.unary main_while0b_v34 main_while0b_v42 ((extractStridedSlice S80x1 ![0, 1] · slices_S80x4_S80x1_0_1) : (⟨S80x4, .f32⟩ : BufTy).Contents (Elt F) → (⟨S80x1, .f32⟩ : BufTy).Contents (Elt F)),
    StableHlo.reshape main_while0b_v42 main_while0b_v43 (rfl : (.f32 : EltTy) = .f32) shapeCasts_S80x1_S80,
    StableHlo.unary main_while0b_v43 main_while0b_v44 (broadcastInDim S1x80 ![1] bcast_S80_S1x80_1 : (⟨S80, .f32⟩ : BufTy).Contents (Elt F) → (⟨S1x80, .f32⟩ : BufTy).Contents (Elt F)),
    StableHlo.unary main_v7_1 main_while0b_v45 ((extractStridedSlice S5000x1 ![0, 1] · slices_S5000x4_S5000x1_0_1) : (⟨S5000x4, .f32⟩ : BufTy).Contents (Elt F) → (⟨S5000x1, .f32⟩ : BufTy).Contents (Elt F)),
    StableHlo.unary main_while0b_v44 main_while0b_v46 (broadcastInDim S5000x80 ![0, 1] bcast_S1x80_S5000x80_0_1 : (⟨S1x80, .f32⟩ : BufTy).Contents (Elt F) → (⟨S5000x80, .f32⟩ : BufTy).Contents (Elt F)),
    StableHlo.unary main_while0b_v45 main_while0b_v47 (broadcastInDim S5000x80 ![0, 1] bcast_S5000x1_S5000x80_0_1 : (⟨S5000x1, .f32⟩ : BufTy).Contents (Elt F) → (⟨S5000x80, .f32⟩ : BufTy).Contents (Elt F)),
    StableHlo.binary main_while0b_v46 main_while0b_v47 main_while0b_v48 (maximumf : (⟨S5000x80, .f32⟩ : BufTy).Contents (Elt F) → (⟨S5000x80, .f32⟩ : BufTy).Contents (Elt F) → (⟨S5000x80, .f32⟩ : BufTy).Contents (Elt F)),
    StableHlo.unary main_while0b_v34 main_while0b_v49 ((extractStridedSlice S80x1 ![0, 2] · slices_S80x4_S80x1_0_2) : (⟨S80x4, .f32⟩ : BufTy).Contents (Elt F) → (⟨S80x1, .f32⟩ : BufTy).Contents (Elt F)),
    StableHlo.reshape main_while0b_v49 main_while0b_v50 (rfl : (.f32 : EltTy) = .f32) shapeCasts_S80x1_S80,
    StableHlo.unary main_while0b_v50 main_while0b_v51 (broadcastInDim S1x80 ![1] bcast_S80_S1x80_1 : (⟨S80, .f32⟩ : BufTy).Contents (Elt F) → (⟨S1x80, .f32⟩ : BufTy).Contents (Elt F)),
    StableHlo.unary main_v7_1 main_while0b_v52 ((extractStridedSlice S5000x1 ![0, 2] · slices_S5000x4_S5000x1_0_2) : (⟨S5000x4, .f32⟩ : BufTy).Contents (Elt F) → (⟨S5000x1, .f32⟩ : BufTy).Contents (Elt F)),
    StableHlo.unary main_while0b_v51 main_while0b_v53 (broadcastInDim S5000x80 ![0, 1] bcast_S1x80_S5000x80_0_1 : (⟨S1x80, .f32⟩ : BufTy).Contents (Elt F) → (⟨S5000x80, .f32⟩ : BufTy).Contents (Elt F)),
    StableHlo.unary main_while0b_v52 main_while0b_v54 (broadcastInDim S5000x80 ![0, 1] bcast_S5000x1_S5000x80_0_1 : (⟨S5000x1, .f32⟩ : BufTy).Contents (Elt F) → (⟨S5000x80, .f32⟩ : BufTy).Contents (Elt F)),
    StableHlo.binary main_while0b_v53 main_while0b_v54 main_while0b_v55 (minimumf : (⟨S5000x80, .f32⟩ : BufTy).Contents (Elt F) → (⟨S5000x80, .f32⟩ : BufTy).Contents (Elt F) → (⟨S5000x80, .f32⟩ : BufTy).Contents (Elt F)),
    StableHlo.unary main_while0b_v34 main_while0b_v56 ((extractStridedSlice S80x1 ![0, 3] · slices_S80x4_S80x1_0_3) : (⟨S80x4, .f32⟩ : BufTy).Contents (Elt F) → (⟨S80x1, .f32⟩ : BufTy).Contents (Elt F)),
    StableHlo.reshape main_while0b_v56 main_while0b_v57 (rfl : (.f32 : EltTy) = .f32) shapeCasts_S80x1_S80,
    StableHlo.unary main_while0b_v57 main_while0b_v58 (broadcastInDim S1x80 ![1] bcast_S80_S1x80_1 : (⟨S80, .f32⟩ : BufTy).Contents (Elt F) → (⟨S1x80, .f32⟩ : BufTy).Contents (Elt F)),
    StableHlo.unary main_v7_1 main_while0b_v59 ((extractStridedSlice S5000x1 ![0, 3] · slices_S5000x4_S5000x1_0_3) : (⟨S5000x4, .f32⟩ : BufTy).Contents (Elt F) → (⟨S5000x1, .f32⟩ : BufTy).Contents (Elt F)),
    StableHlo.unary main_while0b_v58 main_while0b_v60 (broadcastInDim S5000x80 ![0, 1] bcast_S1x80_S5000x80_0_1 : (⟨S1x80, .f32⟩ : BufTy).Contents (Elt F) → (⟨S5000x80, .f32⟩ : BufTy).Contents (Elt F)),
    StableHlo.unary main_while0b_v59 main_while0b_v61 (broadcastInDim S5000x80 ![0, 1] bcast_S5000x1_S5000x80_0_1 : (⟨S5000x1, .f32⟩ : BufTy).Contents (Elt F) → (⟨S5000x80, .f32⟩ : BufTy).Contents (Elt F)),
    StableHlo.binary main_while0b_v60 main_while0b_v61 main_while0b_v62 (minimumf : (⟨S5000x80, .f32⟩ : BufTy).Contents (Elt F) → (⟨S5000x80, .f32⟩ : BufTy).Contents (Elt F) → (⟨S5000x80, .f32⟩ : BufTy).Contents (Elt F)),
    StableHlo.binary main_while0b_v55 main_while0b_v41 main_while0b_v63 (subf : (⟨S5000x80, .f32⟩ : BufTy).Contents (Elt F) → (⟨S5000x80, .f32⟩ : BufTy).Contents (Elt F) → (⟨S5000x80, .f32⟩ : BufTy).Contents (Elt F)),
    StableHlo.nullary main_while0b_cst_18 (constant S_ .f32 0x00000000#32),
    StableHlo.unary main_while0b_cst_18 main_while0b_v64 (broadcastInDim S5000x80 ![] bcast_S_S5000x80 : (⟨S_, .f32⟩ : BufTy).Contents (Elt F) → (⟨S5000x80, .f32⟩ : BufTy).Contents (Elt F)),
    StableHlo.binary main_while0b_v63 main_while0b_v64 main_while0b_v65 (maximumf : (⟨S5000x80, .f32⟩ : BufTy).Contents (Elt F) → (⟨S5000x80, .f32⟩ : BufTy).Contents (Elt F) → (⟨S5000x80, .f32⟩ : BufTy).Contents (Elt F)),
    StableHlo.binary main_while0b_v62 main_while0b_v48 main_while0b_v66 (subf : (⟨S5000x80, .f32⟩ : BufTy).Contents (Elt F) → (⟨S5000x80, .f32⟩ : BufTy).Contents (Elt F) → (⟨S5000x80, .f32⟩ : BufTy).Contents (Elt F)),
    StableHlo.nullary main_while0b_cst_19 (constant S_ .f32 0x00000000#32),
    StableHlo.unary main_while0b_cst_19 main_while0b_v67 (broadcastInDim S5000x80 ![] bcast_S_S5000x80 : (⟨S_, .f32⟩ : BufTy).Contents (Elt F) → (⟨S5000x80, .f32⟩ : BufTy).Contents (Elt F)),
    StableHlo.binary main_while0b_v66 main_while0b_v67 main_while0b_v68 (maximumf : (⟨S5000x80, .f32⟩ : BufTy).Contents (Elt F) → (⟨S5000x80, .f32⟩ : BufTy).Contents (Elt F) → (⟨S5000x80, .f32⟩ : BufTy).Contents (Elt F)),
    StableHlo.binary main_while0b_v65 main_while0b_v68 main_while0b_v69 (mulf : (⟨S5000x80, .f32⟩ : BufTy).Contents (Elt F) → (⟨S5000x80, .f32⟩ : BufTy).Contents (Elt F) → (⟨S5000x80, .f32⟩ : BufTy).Contents (Elt F)) ]
theorem trip4_sub : (trip4 : List (HloOp τ sig (Elt F))).Forall fun op => op.bufs ⊆ tcRefs τ sig :=
  ⟨unary_bufs_sub .., reshape_bufs_sub .., unary_bufs_sub .., unary_bufs_sub .., unary_bufs_sub .., unary_bufs_sub .., binary_bufs_sub .., unary_bufs_sub .., reshape_bufs_sub .., unary_bufs_sub .., unary_bufs_sub .., unary_bufs_sub .., unary_bufs_sub .., binary_bufs_sub .., unary_bufs_sub .., reshape_bufs_sub .., unary_bufs_sub .., unary_bufs_sub .., unary_bufs_sub .., unary_bufs_sub .., binary_bufs_sub .., unary_bufs_sub .., reshape_bufs_sub .., unary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub ..⟩
theorem trip4_fresh : (trip4 : List (HloOp τ sig (Elt F))).Forall fun op => op.fresh = ∅ := forall_fresh_of_map rfl
/-- What it writes. -/
abbrev trip4_W : List (Ref sig .tc) := [main_while0b_v35, main_while0b_v36, main_while0b_v37, main_while0b_v38, main_while0b_v39, main_while0b_v40, main_while0b_v41, main_while0b_v42, main_while0b_v43, main_while0b_v44, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60, main_while0b_v61, main_while0b_v62, main_while0b_v63, main_while0b_cst_18, main_while0b_v64, main_while0b_v65, main_while0b_v66, main_while0b_cst_19, main_while0b_v67, main_while0b_v68, main_while0b_v69]
theorem trip4_writes : (trip4 : List (HloOp τ sig (Elt F))).Forall fun op => op.writes ⊆ (trip4_W.map (Proc.devRef (τ := τ) .tc)).toFinset :=
  forall_writes_sub_of_map rfl

/-- The overlap ratio compared with one half. -/
abbrev trip5 : List (HloOp τ sig (Elt F)) :=
  [ StableHlo.unary main_while0b_v34 main_while0b_v70 ((extractStridedSlice S80x1 ![0, 2] · slices_S80x4_S80x1_0_2) : (⟨S80x4, .f32⟩ : BufTy).Contents (Elt F) → (⟨S80x1, .f32⟩ : BufTy).Contents (Elt F)),
    StableHlo.reshape main_while0b_v70 main_while0b_v71 (rfl : (.f32 : EltTy) = .f32) shapeCasts_S80x1_S80,
    StableHlo.unary main_while0b_v34 main_while0b_v72 ((extractStridedSlice S80x1 ![0, 0] · slices_S80x4_S80x1_0_0) : (⟨S80x4, .f32⟩ : BufTy).Contents (Elt F) → (⟨S80x1, .f32⟩ : BufTy).Contents (Elt F)),
    StableHlo.reshape main_while0b_v72 main_while0b_v73 (rfl : (.f32 : EltTy) = .f32) shapeCasts_S80x1_S80,
    StableHlo.binary main_while0b_v71 main_while0b_v73 main_while0b_v74 (subf : (⟨S80, .f32⟩ : BufTy).Contents (Elt F) → (⟨S80, .f32⟩ : BufTy).Contents (Elt F) → (⟨S80, .f32⟩ : BufTy).Contents (Elt F)),
    StableHlo.unary main_while0b_v34 main_while0b_v75 ((extractStridedSlice S80x1 ![0, 3] · slices_S80x4_S80x1_0_3) : (⟨S80x4, .f32⟩ : BufTy).Contents (Elt F) → (⟨S80x1, .f32⟩ : BufTy).Contents (Elt F)),
    StableHlo.reshape main_while0b_v75 main_while0b_v76 (rfl : (.f32 : EltTy) = .f32) shapeCasts_S80x1_S80,
    StableHlo.unary main_while0b_v34 main_while0b_v77 ((extractStridedSlice S80x1 ![0, 1] · slices_S80x4_S80x1_0_1) : (⟨S80x4, .f32⟩ : BufTy).Contents (Elt F) → (⟨S80x1, .f32⟩ : BufTy).Contents (Elt F)),
    StableHlo.reshape main_while0b_v77 main_while0b_v78 (rfl : (.f32 : EltTy) = .f32) shapeCasts_S80x1_S80,
    StableHlo.binary main_while0b_v76 main_while0b_v78 main_while0b_v79 (subf : (⟨S80, .f32⟩ : BufTy).Contents (Elt F) → (⟨S80, .f32⟩ : BufTy).Contents (Elt F) → (⟨S80, .f32⟩ : BufTy).Contents (Elt F)),
    StableHlo.binary main_while0b_v74 main_while0b_v79 main_while0b_v80 (mulf : (⟨S80, .f32⟩ : BufTy).Contents (Elt F) → (⟨S80, .f32⟩ : BufTy).Contents (Elt F) → (⟨S80, .f32⟩ : BufTy).Contents (Elt F)),
    StableHlo.unary main_v7_1 main_while0b_v81 ((extractStridedSlice S5000x1 ![0, 2] · slices_S5000x4_S5000x1_0_2) : (⟨S5000x4, .f32⟩ : BufTy).Contents (Elt F) → (⟨S5000x1, .f32⟩ : BufTy).Contents (Elt F)),
    StableHlo.reshape main_while0b_v81 main_while0b_v82 (rfl : (.f32 : EltTy) = .f32) shapeCasts_S5000x1_S5000,
    StableHlo.unary main_v7_1 main_while0b_v83 ((extractStridedSlice S5000x1 ![0, 0] · slices_S5000x4_S5000x1_0_0) : (⟨S5000x4, .f32⟩ : BufTy).Contents (Elt F) → (⟨S5000x1, .f32⟩ : BufTy).Contents (Elt F)),
    StableHlo.reshape main_while0b_v83 main_while0b_v84 (rfl : (.f32 : EltTy) = .f32) shapeCasts_S5000x1_S5000,
    StableHlo.binary main_while0b_v82 main_while0b_v84 main_while0b_v85 (subf : (⟨S5000, .f32⟩ : BufTy).Contents (Elt F) → (⟨S5000, .f32⟩ : BufTy).Contents (Elt F) → (⟨S5000, .f32⟩ : BufTy).Contents (Elt F)),
    StableHlo.unary main_v7_1 main_while0b_v86 ((extractStridedSlice S5000x1 ![0, 3] · slices_S5000x4_S5000x1_0_3) : (⟨S5000x4, .f32⟩ : BufTy).Contents (Elt F) → (⟨S5000x1, .f32⟩ : BufTy).Contents (Elt F)),
    StableHlo.reshape main_while0b_v86 main_while0b_v87 (rfl : (.f32 : EltTy) = .f32) shapeCasts_S5000x1_S5000,
    StableHlo.unary main_v7_1 main_while0b_v88 ((extractStridedSlice S5000x1 ![0, 1] · slices_S5000x4_S5000x1_0_1) : (⟨S5000x4, .f32⟩ : BufTy).Contents (Elt F) → (⟨S5000x1, .f32⟩ : BufTy).Contents (Elt F)),
    StableHlo.reshape main_while0b_v88 main_while0b_v89 (rfl : (.f32 : EltTy) = .f32) shapeCasts_S5000x1_S5000,
    StableHlo.binary main_while0b_v87 main_while0b_v89 main_while0b_v90 (subf : (⟨S5000, .f32⟩ : BufTy).Contents (Elt F) → (⟨S5000, .f32⟩ : BufTy).Contents (Elt F) → (⟨S5000, .f32⟩ : BufTy).Contents (Elt F)),
    StableHlo.binary main_while0b_v85 main_while0b_v90 main_while0b_v91 (mulf : (⟨S5000, .f32⟩ : BufTy).Contents (Elt F) → (⟨S5000, .f32⟩ : BufTy).Contents (Elt F) → (⟨S5000, .f32⟩ : BufTy).Contents (Elt F)),
    StableHlo.unary main_while0b_v80 main_while0b_v92 (broadcastInDim S1x80 ![1] bcast_S80_S1x80_1 : (⟨S80, .f32⟩ : BufTy).Contents (Elt F) → (⟨S1x80, .f32⟩ : BufTy).Contents (Elt F)),
    StableHlo.unary main_while0b_v91 main_while0b_v93 (broadcastInDim S5000x1 ![0] bcast_S5000_S5000x1_0 : (⟨S5000, .f32⟩ : BufTy).Contents (Elt F) → (⟨S5000x1, .f32⟩ : BufTy).Contents (Elt F)),
    StableHlo.unary main_while0b_v92 main_while0b_v94 (broadcastInDim S5000x80 ![0, 1] bcast_S1x80_S5000x80_0_1 : (⟨S1x80, .f32⟩ : BufTy).Contents (Elt F) → (⟨S5000x80, .f32⟩ : BufTy).Contents (Elt F)),
    StableHlo.unary main_while0b_v93 main_while0b_v95 (broadcastInDim S5000x80 ![0, 1] bcast_S5000x1_S5000x80_0_1 : (⟨S5000x1, .f32⟩ : BufTy).Contents (Elt F) → (⟨S5000x80, .f32⟩ : BufTy).Contents (Elt F)),
    StableHlo.binary main_while0b_v94 main_while0b_v95 main_while0b_v96 (addf : (⟨S5000x80, .f32⟩ : BufTy).Contents (Elt F) → (⟨S5000x80, .f32⟩ : BufTy).Contents (Elt F) → (⟨S5000x80, .f32⟩ : BufTy).Contents (Elt F)),
    StableHlo.binary main_while0b_v96 main_while0b_v69 main_while0b_v97 (subf : (⟨S5000x80, .f32⟩ : BufTy).Contents (Elt F) → (⟨S5000x80, .f32⟩ : BufTy).Contents (Elt F) → (⟨S5000x80, .f32⟩ : BufTy).Contents (Elt F)),
    StableHlo.nullary main_while0b_cst_20 (constant S_ .f32 0x322BCC77#32),
    StableHlo.unary main_while0b_cst_20 main_while0b_v98 (broadcastInDim S5000x80 ![] bcast_S_S5000x80 : (⟨S_, .f32⟩ : BufTy).Contents (Elt F) → (⟨S5000x80, .f32⟩ : BufTy).Contents (Elt F)),
    StableHlo.binary main_while0b_v97 main_while0b_v98 main_while0b_v99 (addf : (⟨S5000x80, .f32⟩ : BufTy).Contents (Elt F) → (⟨S5000x80, .f32⟩ : BufTy).Contents (Elt F) → (⟨S5000x80, .f32⟩ : BufTy).Contents (Elt F)),
    StableHlo.binary main_while0b_v69 main_while0b_v99 main_while0b_v100 (Host.divf : (⟨S5000x80, .f32⟩ : BufTy).Contents (Elt F) → (⟨S5000x80, .f32⟩ : BufTy).Contents (Elt F) → (⟨S5000x80, .f32⟩ : BufTy).Contents (Elt F)),
    StableHlo.nullary main_while0b_cst_21 (constant S_ .f32 0x3F000000#32),
    StableHlo.unary main_while0b_cst_21 main_while0b_v101 (broadcastInDim S5000x80 ![] bcast_S_S5000x80 : (⟨S_, .f32⟩ : BufTy).Contents (Elt F) → (⟨S5000x80, .f32⟩ : BufTy).Contents (Elt F)),
    StableHlo.binary main_while0b_v100 main_while0b_v101 main_while0b_v102 (cmpf .ogt : (⟨S5000x80, .f32⟩ : BufTy).Contents (Elt F) → (⟨S5000x80, .f32⟩ : BufTy).Contents (Elt F) → (⟨S5000x80, .i1⟩ : BufTy).Contents (Elt F)) ]
theorem trip5_sub : (trip5 : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩
theorem trip5_fresh : (trip5 : List (HloOp τ sig (Elt F))).Forall fun op => op.fresh = ∅ := forall_fresh_of_map rfl
/-- What it writes. -/
abbrev trip5_W : List (Ref sig .tc) := [main_while0b_v70, main_while0b_v71, main_while0b_v72, main_while0b_v73, main_while0b_v74, main_while0b_v75, main_while0b_v76, main_while0b_v77, main_while0b_v78, main_while0b_v79, main_while0b_v80, main_while0b_v81, main_while0b_v82, main_while0b_v83, main_while0b_v84, main_while0b_v85, main_while0b_v86, main_while0b_v87, main_while0b_v88, main_while0b_v89, main_while0b_v90, main_while0b_v91, main_while0b_v92, main_while0b_v93, main_while0b_v94, main_while0b_v95, main_while0b_v96, main_while0b_v97, main_while0b_cst_20, main_while0b_v98, main_while0b_v99, main_while0b_v100, main_while0b_cst_21, main_while0b_v101, main_while0b_v102]
theorem trip5_writes : (trip5 : List (HloOp τ sig (Elt F))).Forall fun op => op.writes ⊆ (trip5_W.map (Proc.devRef (τ := τ) .tc)).toFinset :=
  forall_writes_sub_of_map rfl

/-- The overlapping boxes suppressed. -/
abbrev trip6 : List (HloOp τ sig (Elt F)) :=
  [ StableHlo.TRef.unary (.of main_v7_2 : StableHlo.TRef sig ⟨S_, .f32⟩) (.of main_while0b_call2_v0 : StableHlo.TRef sig ⟨S5000x80, .f32⟩) (broadcastInDim S5000x80 ![] bcast_S_S5000x80),
    StableHlo.TRef.ternary (.of main_while0b_v102 : StableHlo.TRef sig ⟨S5000x80, .i1⟩) (.of main_while0b_call2_v0 : StableHlo.TRef sig ⟨S5000x80, .f32⟩) (.of main_v7_5 : StableHlo.TRef sig ⟨S5000x80, .f32⟩) (.of main_while0b_v103 : StableHlo.TRef sig ⟨S5000x80, .f32⟩) select ]
theorem trip6_sub : (trip6 : List (HloOp τ sig (Elt F))).Forall fun op => op.bufs ⊆ tcRefs τ sig :=
  ⟨unary_bufs_sub .., ternary_bufs_sub ..⟩
theorem trip6_fresh : (trip6 : List (HloOp τ sig (Elt F))).Forall fun op => op.fresh = ∅ := forall_fresh_of_map rfl
/-- What it writes. -/
abbrev trip6_W : List (Ref sig .tc) := [main_while0b_call2_v0, main_while0b_v103]
theorem trip6_writes : (trip6 : List (HloOp τ sig (Elt F))).Forall fun op => op.writes ⊆ (trip6_W.map (Proc.devRef (τ := τ) .tc)).toFinset :=
  forall_writes_sub_of_map rfl

/-- The best box itself suppressed. -/
abbrev trip7 : List (HloOp τ sig (Elt F)) :=
  [ StableHlo.nullary main_while0b_c_22 (constantI S_ 32 0#32),
    StableHlo.unary main_while0b_c_22 main_while0b_v104 (broadcastInDim S80 ![] bcast_S_S80 : (⟨S_, .i32⟩ : BufTy).Contents (Elt F) → (⟨S80, .i32⟩ : BufTy).Contents (Elt F)),
    StableHlo.binary main_while0b_v10 main_while0b_v104 main_while0b_v105 (cmpi .slt : (⟨S80, .i32⟩ : BufTy).Contents (Elt F) → (⟨S80, .i32⟩ : BufTy).Contents (Elt F) → (⟨S80, .i1⟩ : BufTy).Contents (Elt F)),
    StableHlo.nullary main_while0b_c_23 (constantI S_ 32 5000#32),
    StableHlo.unary main_while0b_c_23 main_while0b_v106 (broadcastInDim S80 ![] bcast_S_S80 : (⟨S_, .i32⟩ : BufTy).Contents (Elt F) → (⟨S80, .i32⟩ : BufTy).Contents (Elt F)),
    StableHlo.binary main_while0b_v10 main_while0b_v106 main_while0b_v107 (addi : (⟨S80, .i32⟩ : BufTy).Contents (Elt F) → (⟨S80, .i32⟩ : BufTy).Contents (Elt F) → (⟨S80, .i32⟩ : BufTy).Contents (Elt F)),
    StableHlo.ternary main_while0b_v105 main_while0b_v107 main_while0b_v10 main_while0b_v108 (select : (⟨S80, .i1⟩ : BufTy).Contents (Elt F) → (⟨S80, .i32⟩ : BufTy).Contents (Elt F) → (⟨S80, .i32⟩ : BufTy).Contents (Elt F) → (⟨S80, .i32⟩ : BufTy).Contents (Elt F)),
    StableHlo.nullary main_while0b_c_24 (constantI S_ 32 0#32),
    StableHlo.unary main_while0b_c_24 main_while0b_v109 (broadcastInDim S80 ![] bcast_S_S80 : (⟨S_, .i32⟩ : BufTy).Contents (Elt F) → (⟨S80, .i32⟩ : BufTy).Contents (Elt F)),
    StableHlo.binary main_v7_0 main_while0b_v109 main_while0b_v110 (cmpi .slt : (⟨S80, .i32⟩ : BufTy).Contents (Elt F) → (⟨S80, .i32⟩ : BufTy).Contents (Elt F) → (⟨S80, .i1⟩ : BufTy).Contents (Elt F)),
    StableHlo.nullary main_while0b_c_25 (constantI S_ 32 80#32),
    StableHlo.unary main_while0b_c_25 main_while0b_v111 (broadcastInDim S80 ![] bcast_S_S80 : (⟨S_, .i32⟩ : BufTy).Contents (Elt F) → (⟨S80, .i32⟩ : BufTy).Contents (Elt F)),
    StableHlo.binary main_v7_0 main_while0b_v111 main_while0b_v112 (addi : (⟨S80, .i32⟩ : BufTy).Contents (Elt F) → (⟨S80, .i32⟩ : BufTy).Contents (Elt F) → (⟨S80, .i32⟩ : BufTy).Contents (Elt F)),
    StableHlo.ternary main_while0b_v110 main_while0b_v112 main_v7_0 main_while0b_v113 (select : (⟨S80, .i1⟩ : BufTy).Contents (Elt F) → (⟨S80, .i32⟩ : BufTy).Contents (Elt F) → (⟨S80, .i32⟩ : BufTy).Contents (Elt F) → (⟨S80, .i32⟩ : BufTy).Contents (Elt F)),
    StableHlo.unary main_while0b_v108 main_while0b_v114 (broadcastInDim S80x1 ![0] bcast_S80_S80x1_0 : (⟨S80, .i32⟩ : BufTy).Contents (Elt F) → (⟨S80x1, .i32⟩ : BufTy).Contents (Elt F)),
    StableHlo.unary main_while0b_v113 main_while0b_v115 (broadcastInDim S80x1 ![0] bcast_S80_S80x1_0 : (⟨S80, .i32⟩ : BufTy).Contents (Elt F) → (⟨S80x1, .i32⟩ : BufTy).Contents (Elt F)),
    StableHlo.binary main_while0b_v114 main_while0b_v115 main_while0b_v116 ((fun a b => concatenate S80x2 1 [⟨S80x1, a⟩, ⟨S80x1, b⟩] concatenates_S80x1_S80x1_S80x2_d1) : (⟨S80x1, .i32⟩ : BufTy).Contents (Elt F) → (⟨S80x1, .i32⟩ : BufTy).Contents (Elt F) → (⟨S80x2, .i32⟩ : BufTy).Contents (Elt F)),
    StableHlo.unary main_v7_2 main_while0b_v117 (broadcastInDim S80 ![] bcast_S_S80 : (⟨S_, .f32⟩ : BufTy).Contents (Elt F) → (⟨S80, .f32⟩ : BufTy).Contents (Elt F)),
    StableHlo.ternary main_while0b_v103 main_while0b_v116 main_while0b_v117 main_while0b_v118 ((fun x i u => Host.scatter scatter_S5000x80_S80x2_S80_n_01_01_1 (fun _ b => b) x i u) : (⟨S5000x80, .f32⟩ : BufTy).Contents (Elt F) → (⟨S80x2, .i32⟩ : BufTy).Contents (Elt F) → (⟨S80, .f32⟩ : BufTy).Contents (Elt F) → (⟨S5000x80, .f32⟩ : BufTy).Contents (Elt F)) ]
theorem trip7_sub : (trip7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., unary_bufs_sub .., ternary_bufs_sub ..⟩
theorem trip7_fresh : (trip7 : List (HloOp τ sig (Elt F))).Forall fun op => op.fresh = ∅ := forall_fresh_of_map rfl
/-- What it writes. -/
abbrev trip7_W : List (Ref sig .tc) := [main_while0b_c_22, main_while0b_v104, main_while0b_v105, main_while0b_c_23, main_while0b_v106, main_while0b_v107, main_while0b_v108, main_while0b_c_24, main_while0b_v109, main_while0b_v110, main_while0b_c_25, main_while0b_v111, main_while0b_v112, main_while0b_v113, main_while0b_v114, main_while0b_v115, main_while0b_v116, main_while0b_v117, main_while0b_v118]
theorem trip7_writes : (trip7 : List (HloOp τ sig (Elt F))).Forall fun op => op.writes ⊆ (trip7_W.map (Proc.devRef (τ := τ) .tc)).toFinset :=
  forall_writes_sub_of_map rfl

/-- The best score written to the result. -/
abbrev trip8 : List (HloOp τ sig (Elt F)) :=
  [ StableHlo.nullary main_while0b_c_26 (constantI S_ 32 0#32),
    StableHlo.unary main_while0b_c_26 main_while0b_v119 (broadcastInDim S80 ![] bcast_S_S80 : (⟨S_, .i32⟩ : BufTy).Contents (Elt F) → (⟨S80, .i32⟩ : BufTy).Contents (Elt F)),
    StableHlo.binary main_while0b_v10 main_while0b_v119 main_while0b_v120 (cmpi .slt : (⟨S80, .i32⟩ : BufTy).Contents (Elt F) → (⟨S80, .i32⟩ : BufTy).Contents (Elt F) → (⟨S80, .i1⟩ : BufTy).Contents (Elt F)),
    StableHlo.nullary main_while0b_c_27 (constantI S_ 32 5000#32),
    StableHlo.unary main_while0b_c_27 main_while0b_v121 (broadcastInDim S80 ![] bcast_S_S80 : (⟨S_, .i32⟩ : BufTy).Contents (Elt F) → (⟨S80, .i32⟩ : BufTy).Contents (Elt F)),
    StableHlo.binary main_while0b_v10 main_while0b_v121 main_while0b_v122 (addi : (⟨S80, .i32⟩ : BufTy).Contents (Elt F) → (⟨S80, .i32⟩ : BufTy).Contents (Elt F) → (⟨S80, .i32⟩ : BufTy).Contents (Elt F)),
    StableHlo.ternary main_while0b_v120 main_while0b_v122 main_while0b_v10 main_while0b_v123 (select : (⟨S80, .i1⟩ : BufTy).Contents (Elt F) → (⟨S80, .i32⟩ : BufTy).Contents (Elt F) → (⟨S80, .i32⟩ : BufTy).Contents (Elt F) → (⟨S80, .i32⟩ : BufTy).Contents (Elt F)),
    StableHlo.nullary main_while0b_c_28 (constantI S_ 32 0#32),
    StableHlo.unary main_while0b_c_28 main_while0b_v124 (broadcastInDim S80 ![] bcast_S_S80 : (⟨S_, .i32⟩ : BufTy).Contents (Elt F) → (⟨S80, .i32⟩ : BufTy).Contents (Elt F)),
    StableHlo.binary main_v7_0 main_while0b_v124 main_while0b_v125 (cmpi .slt : (⟨S80, .i32⟩ : BufTy).Contents (Elt F) → (⟨S80, .i32⟩ : BufTy).Contents (Elt F) → (⟨S80, .i1⟩ : BufTy).Contents (Elt F)),
    StableHlo.nullary main_while0b_c_29 (constantI S_ 32 80#32),
    StableHlo.unary main_while0b_c_29 main_while0b_v126 (broadcastInDim S80 ![] bcast_S_S80 : (⟨S_, .i32⟩ : BufTy).Contents (Elt F) → (⟨S80, .i32⟩ : BufTy).Contents (Elt F)),
    StableHlo.binary main_v7_0 main_while0b_v126 main_while0b_v127 (addi : (⟨S80, .i32⟩ : BufTy).Contents (Elt F) → (⟨S80, .i32⟩ : BufTy).Contents (Elt F) → (⟨S80, .i32⟩ : BufTy).Contents (Elt F)),
    StableHlo.ternary main_while0b_v125 main_while0b_v127 main_v7_0 main_while0b_v128 (select : (⟨S80, .i1⟩ : BufTy).Contents (Elt F) → (⟨S80, .i32⟩ : BufTy).Contents (Elt F) → (⟨S80, .i32⟩ : BufTy).Contents (Elt F) → (⟨S80, .i32⟩ : BufTy).Contents (Elt F)),
    StableHlo.unary main_while0b_v123 main_while0b_v129 (broadcastInDim S80x1 ![0] bcast_S80_S80x1_0 : (⟨S80, .i32⟩ : BufTy).Contents (Elt F) → (⟨S80x1, .i32⟩ : BufTy).Contents (Elt F)),
    StableHlo.unary main_while0b_v128 main_while0b_v130 (broadcastInDim S80x1 ![0] bcast_S80_S80x1_0 : (⟨S80, .i32⟩ : BufTy).Contents (Elt F) → (⟨S80x1, .i32⟩ : BufTy).Contents (Elt F)),
    StableHlo.binary main_while0b_v129 main_while0b_v130 main_while0b_v131 ((fun a b => concatenate S80x2 1 [⟨S80x1, a⟩, ⟨S80x1, b⟩] concatenates_S80x1_S80x1_S80x2_d1) : (⟨S80x1, .i32⟩ : BufTy).Contents (Elt F) → (⟨S80x1, .i32⟩ : BufTy).Contents (Elt F) → (⟨S80x2, .i32⟩ : BufTy).Contents (Elt F)),
    StableHlo.ternary main_v7_6 main_while0b_v131 main_while0b_v24 main_while0b_v132 ((fun x i u => Host.scatter scatter_S5000x80_S80x2_S80_n_01_01_1 (fun _ b => b) x i u) : (⟨S5000x80, .f32⟩ : BufTy).Contents (Elt F) → (⟨S80x2, .i32⟩ : BufTy).Contents (Elt F) → (⟨S80, .f32⟩ : BufTy).Contents (Elt F) → (⟨S5000x80, .f32⟩ : BufTy).Contents (Elt F)) ]
theorem trip8_sub : (trip8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩
theorem trip8_fresh : (trip8 : List (HloOp τ sig (Elt F))).Forall fun op => op.fresh = ∅ := forall_fresh_of_map rfl
/-- What it writes. -/
abbrev trip8_W : List (Ref sig .tc) := [main_while0b_c_26, main_while0b_v119, main_while0b_v120, main_while0b_c_27, main_while0b_v121, main_while0b_v122, main_while0b_v123, main_while0b_c_28, main_while0b_v124, main_while0b_v125, main_while0b_c_29, main_while0b_v126, main_while0b_v127, main_while0b_v128, main_while0b_v129, main_while0b_v130, main_while0b_v131, main_while0b_v132]
theorem trip8_writes : (trip8 : List (HloOp τ sig (Elt F))).Forall fun op => op.writes ⊆ (trip8_W.map (Proc.devRef (τ := τ) .tc)).toFinset :=
  forall_writes_sub_of_map rfl

/-- The result kept where the class is exhausted. -/
abbrev trip9 : List (HloOp τ sig (Elt F)) :=
  [ StableHlo.TRef.unary (.of main_while0b_v27 : StableHlo.TRef sig ⟨S80, .i1⟩) (.of main_while0b_call3_v0 : StableHlo.TRef sig ⟨S5000x80, .i1⟩) (broadcastInDim S5000x80 ![1] bcast_S80_S5000x80_1),
    StableHlo.TRef.ternary (.of main_while0b_call3_v0 : StableHlo.TRef sig ⟨S5000x80, .i1⟩) (.of main_while0b_v132 : StableHlo.TRef sig ⟨S5000x80, .f32⟩) (.of main_v7_6 : StableHlo.TRef sig ⟨S5000x80, .f32⟩) (.of main_while0b_v133 : StableHlo.TRef sig ⟨S5000x80, .f32⟩) select ]
theorem trip9_sub : (trip9 : List (HloOp τ sig (Elt F))).Forall fun op => op.bufs ⊆ tcRefs τ sig :=
  ⟨unary_bufs_sub .., ternary_bufs_sub ..⟩
theorem trip9_fresh : (trip9 : List (HloOp τ sig (Elt F))).Forall fun op => op.fresh = ∅ := forall_fresh_of_map rfl
/-- What it writes. -/
abbrev trip9_W : List (Ref sig .tc) := [main_while0b_call3_v0, main_while0b_v133]
theorem trip9_writes : (trip9 : List (HloOp τ sig (Elt F))).Forall fun op => op.writes ⊆ (trip9_W.map (Proc.devRef (τ := τ) .tc)).toFinset :=
  forall_writes_sub_of_map rfl

/-- The scores kept where the class is exhausted. -/
abbrev trip10 : List (HloOp τ sig (Elt F)) :=
  [ StableHlo.TRef.unary (.of main_while0b_v27 : StableHlo.TRef sig ⟨S80, .i1⟩) (.of main_while0b_call4_v0 : StableHlo.TRef sig ⟨S5000x80, .i1⟩) (broadcastInDim S5000x80 ![1] bcast_S80_S5000x80_1),
    StableHlo.TRef.ternary (.of main_while0b_call4_v0 : StableHlo.TRef sig ⟨S5000x80, .i1⟩) (.of main_while0b_v118 : StableHlo.TRef sig ⟨S5000x80, .f32⟩) (.of main_v7_5 : StableHlo.TRef sig ⟨S5000x80, .f32⟩) (.of main_while0b_v134 : StableHlo.TRef sig ⟨S5000x80, .f32⟩) select ]
theorem trip10_sub : (trip10 : List (HloOp τ sig (Elt F))).Forall fun op => op.bufs ⊆ tcRefs τ sig :=
  ⟨unary_bufs_sub .., ternary_bufs_sub ..⟩
theorem trip10_fresh : (trip10 : List (HloOp τ sig (Elt F))).Forall fun op => op.fresh = ∅ := forall_fresh_of_map rfl
/-- What it writes. -/
abbrev trip10_W : List (Ref sig .tc) := [main_while0b_call4_v0, main_while0b_v134]
theorem trip10_writes : (trip10 : List (HloOp τ sig (Elt F))).Forall fun op => op.writes ⊆ (trip10_W.map (Proc.devRef (τ := τ) .tc)).toFinset :=
  forall_writes_sub_of_map rfl

/-- The carried values after the trip. -/
abbrev trip11 : List (HloOp τ sig (Elt F)) :=
  [ StableHlo.nullary main_while0b_c_30 (constantI S_ 32 1#32),
    StableHlo.binary main_v7_3 main_while0b_c_30 main_while0b_v135 (addi : (⟨S_, .i32⟩ : BufTy).Contents (Elt F) → (⟨S_, .i32⟩ : BufTy).Contents (Elt F) → (⟨S_, .i32⟩ : BufTy).Contents (Elt F)),
    StableHlo.unary main_while0b_v135 main_v7_3 id,
    StableHlo.unary main_while0b_v9 main_v7_4 id,
    StableHlo.unary main_while0b_v134 main_v7_5 id,
    StableHlo.unary main_while0b_v133 main_v7_6 id ]
theorem trip11_sub : (trip11 : List (HloOp τ sig (Elt F))).Forall fun op => op.bufs ⊆ tcRefs τ sig :=
  ⟨nullary_bufs_sub .., binary_bufs_sub .., unary_bufs_sub .., unary_bufs_sub .., unary_bufs_sub .., unary_bufs_sub ..⟩
theorem trip11_fresh : (trip11 : List (HloOp τ sig (Elt F))).Forall fun op => op.fresh = ∅ := forall_fresh_of_map rfl
/-- What it writes. -/
abbrev trip11_W : List (Ref sig .tc) := [main_while0b_c_30, main_while0b_v135, main_v7_3, main_v7_4, main_v7_5, main_v7_6]
theorem trip11_writes : (trip11 : List (HloOp τ sig (Elt F))).Forall fun op => op.writes ⊆ (trip11_W.map (Proc.devRef (τ := τ) .tc)).toFinset :=
  forall_writes_sub_of_map rfl

/-- The result's leading axis. -/
abbrev post0 : List (HloOp τ sig (Elt F)) :=
  [ StableHlo.unary main_v7_6 main_v8 (broadcastInDim S1x5000x80 ![1, 2] bcast_S5000x80_S1x5000x80_1_2 : (⟨S5000x80, .f32⟩ : BufTy).Contents (Elt F) → (⟨S1x5000x80, .f32⟩ : BufTy).Contents (Elt F)) ]
theorem post0_sub : (post0 : List (HloOp τ sig (Elt F))).Forall fun op => op.bufs ⊆ tcRefs τ sig :=
  unary_bufs_sub ..
theorem post0_fresh : (post0 : List (HloOp τ sig (Elt F))).Forall fun op => op.fresh = ∅ := forall_fresh_of_map rfl
/-- What it writes. -/
abbrev post0_W : List (Ref sig .tc) := [main_v8]
theorem post0_writes : (post0 : List (HloOp τ sig (Elt F))).Forall fun op => op.writes ⊆ (post0_W.map (Proc.devRef (τ := τ) .tc)).toFinset :=
  forall_writes_sub_of_map rfl

/-! ## The program as these lists -/

set_option maxRecDepth 100000 in
theorem main_chain (c : Dev nD) : main (F := F) c = (Pipeline.chain
    [StableHlo.seq pre0, StableHlo.seq pre1, StableHlo.seq pre2, HostLoop.enter 0, StableHlo.seq post0] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

set_option maxRecDepth 100000 in
theorem body_chain : main_while0_body (F := F) = (Pipeline.chain
    [StableHlo.seq trip0, StableHlo.seq trip1, StableHlo.seq trip2, StableHlo.seq trip3, StableHlo.seq trip4, StableHlo.seq trip5, StableHlo.seq trip6, StableHlo.seq trip7, StableHlo.seq trip8, StableHlo.seq trip9, StableHlo.seq trip10, StableHlo.seq trip11] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, StableHlo.chain_seq_cons, StableHlo.chain_seq_cons, StableHlo.chain_seq_cons, Pipeline.chain_cons, StableHlo.chain_seq_cons, StableHlo.chain_seq_cons, Pipeline.chain_cons, Pipeline.chain_cons, StableHlo.chain_seq_cons]
  chain_rfl

/-- The condition's two operations: the bound, and the trip counter compared with it. -/
abbrev condOps : List (HloOp τ sig (Elt F)) :=
  [ StableHlo.nullary main_while0c_c_10 (constantI S_ 32 300#32),
    StableHlo.binary main_v7_3 main_while0c_c_10 main_while0c_v9 (cmpi .slt) ]
abbrev condOps_W : List (Ref sig .tc) := [main_while0c_c_10, main_while0c_v9]
theorem condOps_writes : (condOps : List (HloOp τ sig (Elt F))).Forall fun op => op.writes ⊆ (condOps_W.map (Proc.devRef (τ := τ) .tc)).toFinset :=
  forall_writes_sub_of_map rfl

/-- The lists before the loop, of one trip, and after the loop. -/
abbrev preI : List (List (HloOp τ sig (Elt F))) := [pre0, pre1, pre2]
abbrev bodyI : List (List (HloOp τ sig (Elt F))) := [trip0, trip1, trip2, trip3, trip4, trip5, trip6, trip7, trip8, trip9, trip10, trip11]
abbrev postI : List (List (HloOp τ sig (Elt F))) := [post0]

theorem hpre : Plain (preI (F := F)) := .cons pre0_sub (hf := List.forall_iff_forall_mem.mp pre0_fresh) (.cons pre1_sub (hf := List.forall_iff_forall_mem.mp pre1_fresh) (.cons pre2_sub (hf := List.forall_iff_forall_mem.mp pre2_fresh) (.nil)))
theorem hbodyI : Plain (bodyI (F := F)) := .cons trip0_sub (hf := List.forall_iff_forall_mem.mp trip0_fresh) (.cons trip1_sub (hf := List.forall_iff_forall_mem.mp trip1_fresh) (.cons trip2_sub (hf := List.forall_iff_forall_mem.mp trip2_fresh) (.cons trip3_sub (hf := List.forall_iff_forall_mem.mp trip3_fresh) (.cons trip4_sub (hf := List.forall_iff_forall_mem.mp trip4_fresh) (.cons trip5_sub (hf := List.forall_iff_forall_mem.mp trip5_fresh) (.cons trip6_sub (hf := List.forall_iff_forall_mem.mp trip6_fresh) (.cons trip7_sub (hf := List.forall_iff_forall_mem.mp trip7_fresh) (.cons trip8_sub (hf := List.forall_iff_forall_mem.mp trip8_fresh) (.cons trip9_sub (hf := List.forall_iff_forall_mem.mp trip9_fresh) (.cons trip10_sub (hf := List.forall_iff_forall_mem.mp trip10_fresh) (.cons trip11_sub (hf := List.forall_iff_forall_mem.mp trip11_fresh) (.nil))))))))))))
theorem hpost : Plain (postI (F := F)) := .cons post0_sub (hf := List.forall_iff_forall_mem.mp post0_fresh) (.nil)

variable (m : (ℓ : Loc nD τ sig) → Buf (Elt F) ℓ) (ρ : Dev nD → PrngReg)

/-- Every buffer's contents before the `k`-th run of the condition. -/
abbrev atK (k : ℕ) (c : Dev nD) : Valuation τ sig (Elt F) := atTrip condOps bodyI (entryContents preI m) k c

theorem ctr_cond (V : Valuation τ sig (Elt F)) : after condOps V (Proc.devRef .tc main_v7_3) = V (Proc.devRef .tc main_v7_3) :=
  after_of_writes_sub condOps V condOps_writes (by decide +kernel)
theorem ctr_trip0 (V : Valuation τ sig (Elt F)) : after trip0 V (Proc.devRef .tc main_v7_3) = V (Proc.devRef .tc main_v7_3) :=
  after_of_writes_sub trip0 V trip0_writes (by decide +kernel)
theorem ctr_trip1 (V : Valuation τ sig (Elt F)) : after trip1 V (Proc.devRef .tc main_v7_3) = V (Proc.devRef .tc main_v7_3) :=
  after_of_writes_sub trip1 V trip1_writes (by decide +kernel)
theorem ctr_trip2 (V : Valuation τ sig (Elt F)) : after trip2 V (Proc.devRef .tc main_v7_3) = V (Proc.devRef .tc main_v7_3) :=
  after_of_writes_sub trip2 V trip2_writes (by decide +kernel)
theorem ctr_trip3 (V : Valuation τ sig (Elt F)) : after trip3 V (Proc.devRef .tc main_v7_3) = V (Proc.devRef .tc main_v7_3) :=
  after_of_writes_sub trip3 V trip3_writes (by decide +kernel)
theorem ctr_trip4 (V : Valuation τ sig (Elt F)) : after trip4 V (Proc.devRef .tc main_v7_3) = V (Proc.devRef .tc main_v7_3) :=
  after_of_writes_sub trip4 V trip4_writes (by decide +kernel)
theorem ctr_trip5 (V : Valuation τ sig (Elt F)) : after trip5 V (Proc.devRef .tc main_v7_3) = V (Proc.devRef .tc main_v7_3) :=
  after_of_writes_sub trip5 V trip5_writes (by decide +kernel)
theorem ctr_trip6 (V : Valuation τ sig (Elt F)) : after trip6 V (Proc.devRef .tc main_v7_3) = V (Proc.devRef .tc main_v7_3) :=
  after_of_writes_sub trip6 V trip6_writes (by decide +kernel)
theorem ctr_trip7 (V : Valuation τ sig (Elt F)) : after trip7 V (Proc.devRef .tc main_v7_3) = V (Proc.devRef .tc main_v7_3) :=
  after_of_writes_sub trip7 V trip7_writes (by decide +kernel)
theorem ctr_trip8 (V : Valuation τ sig (Elt F)) : after trip8 V (Proc.devRef .tc main_v7_3) = V (Proc.devRef .tc main_v7_3) :=
  after_of_writes_sub trip8 V trip8_writes (by decide +kernel)
theorem ctr_trip9 (V : Valuation τ sig (Elt F)) : after trip9 V (Proc.devRef .tc main_v7_3) = V (Proc.devRef .tc main_v7_3) :=
  after_of_writes_sub trip9 V trip9_writes (by decide +kernel)
theorem ctr_trip10 (V : Valuation τ sig (Elt F)) : after trip10 V (Proc.devRef .tc main_v7_3) = V (Proc.devRef .tc main_v7_3) :=
  after_of_writes_sub trip10 V trip10_writes (by decide +kernel)

set_option maxRecDepth 100000 in
/-- The last list leaves the counter one step on. -/
theorem ctr_step (X : Valuation τ sig (Elt F)) :
    after trip11 X (Proc.devRef .tc main_v7_3) = addi (X (Proc.devRef .tc main_v7_3)) (constantI S_ 32 1#32) := by
  after_results
  rfl

theorem ctr_entry (c : Dev nD) : entryContents preI m c (Proc.devRef .tc main_v7_3) = fun _ => (0#32 : BitVec 32) := by
  simp only [entryContents, afterL_cons, afterL_nil]
  after_reads_simp
  rfl

theorem atK_ctr (c : Dev nD) : ∀ k, atK m k c (Proc.devRef .tc main_v7_3) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_trip10, ctr_trip9, ctr_trip8, ctr_trip7, ctr_trip6, ctr_trip5, ctr_trip4, ctr_trip3, ctr_trip2, ctr_trip1, ctr_trip0, ctr_cond, atK_ctr c k, Scf.iv_succ]
    rfl

-- the rule for any thread meets the goal at the TensorCore's thread through plain definitions in a metavariable's type
set_option backward.isDefEq.respectTransparency.types false in
/-- The condition holds for 300 trips. -/
theorem cond_spec : CondSpec (pcfgs (F := F)) defs₀ loops (main_while0_cond (F := F)) condOps bodyI (entryContents preI m) 300 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v7_3 HostLoop.idx0)
        (HloOp.result _ (atK m k c) main_while0c_c_10 HostLoop.idx0) = 1#1) (k < 300)
    rw [nullary_result_ne _ _ _ _ (by decide), nullary_result, hctr]
    exact Scf.cmpi_slt_iv_ub_iff (lb := 0#32) (ub := 300#32) (st := 1#32) (by decide) (show k ≤ Scf.trips 0#32 300#32 1#32 from hk)
  isplitl [Hb]; · iexact Hb
  rw [after_cons, after_cons, after_nil]; iexact Hh

set_option maxRecDepth 100000 in
/-- Every execution ends with each buffer at the fold of the lists. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 300 m c (Proc.devRef .tc b)) :=
  run_loop (pcfgs (F := F)) defs₀ loops main 0 main_while0_cond main_while0_body rfl preI bodyI postI condOps hpre hbodyI hpost
    (fun c => by rw [main_chain]; rfl) (by rw [body_chain]; rfl) 300 m ρ (cond_spec m)

end Cert.RefRun
-- ==== Proof.RefOverlap.lean ====
/-
  The reference's overlap test at an index: the lists that read coordinates out of the boxes and end with the test, as
  the test of two boxes in their eight coordinates.
-/
module

public import proofs.«01_k».proof.Proof.RefRun
public import proofs.«01_k».proof.Proof.KernelWords
public import Idealize.ShloMosaic.Lib.ValueIdxCore
public import Idealize.ShloMosaic.Lib.ValueLayout
public import Idealize.ShloMosaic.Lib.Pipeline.ValueKit

@[expose] public section

set_option maxRecDepth 100000

noncomputable section

namespace Cert.RefStep

open Cert.ReferenceIdeal Cert.ReferenceIdeal.Gen Cert.RefRun
open Idealize.ShloMosaic Idealize.ShloMosaic.TcCoe Idealize.ShloMosaic.Tactic
open Idealize.ShloMosaic.StableHlo

section Layout
variable {α : Type}

/-- One coordinate of the picked boxes, as a vector over the classes. -/
theorem coordRow (v : S80x4.Idx → α) (k : ℕ) (hk : k < 4) (h : S80x4.Slices ![0, k] S80x1) (h' : S80x1.ShapeCasts S80) (c : Fin 80) :
    shapeCast S80 (extractStridedSlice S80x1 ![0, k] v h) h' (ValueIdx.ix1 c) = v (ValueIdx.ix2 c ⟨k, hk⟩) := by
  rw [shapeCast_apply _ h' (ValueIdx.ix1 c) (ValueIdx.ix2 c (0 : Fin 1)) (by
    rw [Shape.rowMajor_val_two, Shape.rowMajor_val_one]; simp)]
  exact ValueIdx.slice2_axis1_apply k v h c 0 ⟨k, hk⟩ (by simp)

/-- One coordinate of all boxes, as a column. -/
theorem coordBox (v : S5000x4.Idx → α) (k : ℕ) (hk : k < 4) (h : S5000x4.Slices ![0, k] S5000x1) (j : Fin 5000) :
    extractStridedSlice S5000x1 ![0, k] v h (ValueIdx.ix2 j (0 : Fin 1)) = v (ValueIdx.ix2 j ⟨k, hk⟩) :=
  ValueIdx.slice2_axis1_apply k v h j 0 ⟨k, hk⟩ (by simp)

/-- A column read as a vector. -/
theorem columnVec (v : S5000x1.Idx → α) (h' : S5000x1.ShapeCasts S5000) (j : Fin 5000) :
    shapeCast S5000 v h' (ValueIdx.ix1 j) = v (ValueIdx.ix2 j (0 : Fin 1)) :=
  shapeCast_apply v h' (ValueIdx.ix1 j) (ValueIdx.ix2 j (0 : Fin 1)) (by
    rw [Shape.rowMajor_val_two, Shape.rowMajor_val_one]; simp)

/-- A vector over the classes laid along every row. -/
theorem alongRow (v : S80.Idx → α) (j : Fin 5000) (c : Fin 80) :
    broadcastInDim S5000x80 ![0, 1] bcast_S1x80_S5000x80_0_1 (broadcastInDim S1x80 ![1] bcast_S80_S1x80_1 v) (ValueIdx.ix2 j c)
      = v (ValueIdx.ix1 c) := by
  rw [broadcastInDim_apply _ _ _ _ (ValueIdx.ix2 (0 : Fin 1) c) fun ax => by match ax with | ⟨0, _⟩ => rfl | ⟨1, _⟩ => rfl]
  exact broadcastInDim_apply _ _ _ _ (ValueIdx.ix1 c) fun ax => by match ax with | ⟨0, _⟩ => rfl

/-- A column laid along every class. -/
theorem alongCol (v : S5000x1.Idx → α) (j : Fin 5000) (c : Fin 80) :
    broadcastInDim S5000x80 ![0, 1] bcast_S5000x1_S5000x80_0_1 v (ValueIdx.ix2 j c) = v (ValueIdx.ix2 j (0 : Fin 1)) :=
  broadcastInDim_apply _ _ _ _ (ValueIdx.ix2 j (0 : Fin 1)) fun ax => by match ax with | ⟨0, _⟩ => rfl | ⟨1, _⟩ => rfl

/-- A vector as a column. -/
theorem asCol (v : S5000.Idx → α) (j : Fin 5000) :
    broadcastInDim S5000x1 ![0] bcast_S5000_S5000x1_0 v (ValueIdx.ix2 j (0 : Fin 1)) = v (ValueIdx.ix1 j) :=
  broadcastInDim_apply _ _ _ _ (ValueIdx.ix1 j) fun ax => by match ax with | ⟨0, _⟩ => rfl

/-- One coordinate of the picked boxes, laid along every row. -/
def rowC (v : S80x4.Idx → α) (k : ℕ) (h : S80x4.Slices ![0, k] S80x1) : S5000x80.Idx → α :=
  broadcastInDim S5000x80 ![0, 1] bcast_S1x80_S5000x80_0_1 (broadcastInDim S1x80 ![1] bcast_S80_S1x80_1
    (shapeCast S80 (extractStridedSlice S80x1 ![0, k] v h) shapeCasts_S80x1_S80))

/-- One coordinate of all boxes, laid along every class. -/
def boxC (v : S5000x4.Idx → α) (k : ℕ) (h : S5000x4.Slices ![0, k] S5000x1) : S5000x80.Idx → α :=
  broadcastInDim S5000x80 ![0, 1] bcast_S5000x1_S5000x80_0_1 (extractStridedSlice S5000x1 ![0, k] v h)

theorem rowC_apply (v : S80x4.Idx → α) (k : ℕ) (hk : k < 4) (h : S80x4.Slices ![0, k] S80x1) (j : Fin 5000) (c : Fin 80) :
    rowC v k h (ValueIdx.ix2 j c) = v (ValueIdx.ix2 c ⟨k, hk⟩) := by
  unfold rowC; rw [alongRow, coordRow v k hk]

theorem boxC_apply (v : S5000x4.Idx → α) (k : ℕ) (hk : k < 4) (h : S5000x4.Slices ![0, k] S5000x1) (j : Fin 5000) (c : Fin 80) :
    boxC v k h (ValueIdx.ix2 j c) = v (ValueIdx.ix2 j ⟨k, hk⟩) := by
  unfold boxC; rw [alongCol, coordBox v k hk]

end Layout

variable {F : FTy → Type} [FloatOps F]

/-- The test with the host's division. -/
def hostHit (a b : Fin 4 → F .f32) : BitVec 1 :=
  FloatOps.cmpf .ogt
    (FloatOps.hostDivf (KWord.inter a b)
      (FloatOps.addf (FloatOps.subf (FloatOps.addf (KWord.area a) (KWord.area b)) (KWord.inter a b)) (FloatOps.ofBits .f32 0x322BCC77#32)))
    (FloatOps.ofBits .f32 0x3F000000#32)

/-- The intersection areas as one array. -/
def interArr (p : S80x4.Idx → F .f32) (b : S5000x4.Idx → F .f32) : S5000x80.Idx → F .f32 :=
  mulf
    (maximumf (subf (minimumf (rowC p 2 slices_S80x4_S80x1_0_2) (boxC b 2 slices_S5000x4_S5000x1_0_2))
      (maximumf (rowC p 0 slices_S80x4_S80x1_0_0) (boxC b 0 slices_S5000x4_S5000x1_0_0)))
      (broadcastInDim S5000x80 ![] bcast_S_S5000x80 (constant S_ .f32 0x00000000#32)))
    (maximumf (subf (minimumf (rowC p 3 slices_S80x4_S80x1_0_3) (boxC b 3 slices_S5000x4_S5000x1_0_3))
      (maximumf (rowC p 1 slices_S80x4_S80x1_0_1) (boxC b 1 slices_S5000x4_S5000x1_0_1)))
      (broadcastInDim S5000x80 ![] bcast_S_S5000x80 (constant S_ .f32 0x00000000#32)))

theorem interArr_eq (V : Valuation τ sig (Elt F)) : after trip4 V (Proc.devRef .tc main_while0b_v69)
    = interArr (V (Proc.devRef .tc main_while0b_v34)) (V (Proc.devRef .tc main_v7_1)) := by
  after_results
  rfl

theorem interArr_apply (p : S80x4.Idx → F .f32) (b : S5000x4.Idx → F .f32) (j : Fin 5000) (c : Fin 80) :
    interArr p b (ValueIdx.ix2 j c) = KWord.inter (fun k => p (ValueIdx.ix2 c k)) (fun k => b (ValueIdx.ix2 j k)) := by
  simp only [interArr, KWord.inter, mulf_apply, maximumf_apply, minimumf_apply, subf_apply]
  rw [rowC_apply p 0 (by omega), rowC_apply p 1 (by omega), rowC_apply p 2 (by omega), rowC_apply p 3 (by omega),
    boxC_apply b 0 (by omega), boxC_apply b 1 (by omega), boxC_apply b 2 (by omega), boxC_apply b 3 (by omega)]
  rfl

/-- The areas of the picked boxes. -/
def rowArea (p : S80x4.Idx → F .f32) : S80.Idx → F .f32 :=
  mulf
    (subf (shapeCast S80 (extractStridedSlice S80x1 ![0, 2] p slices_S80x4_S80x1_0_2) shapeCasts_S80x1_S80)
      (shapeCast S80 (extractStridedSlice S80x1 ![0, 0] p slices_S80x4_S80x1_0_0) shapeCasts_S80x1_S80))
    (subf (shapeCast S80 (extractStridedSlice S80x1 ![0, 3] p slices_S80x4_S80x1_0_3) shapeCasts_S80x1_S80)
      (shapeCast S80 (extractStridedSlice S80x1 ![0, 1] p slices_S80x4_S80x1_0_1) shapeCasts_S80x1_S80))

/-- The areas of all boxes. -/
def boxArea (b : S5000x4.Idx → F .f32) : S5000.Idx → F .f32 :=
  mulf
    (subf (shapeCast S5000 (extractStridedSlice S5000x1 ![0, 2] b slices_S5000x4_S5000x1_0_2) shapeCasts_S5000x1_S5000)
      (shapeCast S5000 (extractStridedSlice S5000x1 ![0, 0] b slices_S5000x4_S5000x1_0_0) shapeCasts_S5000x1_S5000))
    (subf (shapeCast S5000 (extractStridedSlice S5000x1 ![0, 3] b slices_S5000x4_S5000x1_0_3) shapeCasts_S5000x1_S5000)
      (shapeCast S5000 (extractStridedSlice S5000x1 ![0, 1] b slices_S5000x4_S5000x1_0_1) shapeCasts_S5000x1_S5000))

theorem rowArea_apply (p : S80x4.Idx → F .f32) (c : Fin 80) :
    rowArea p (ValueIdx.ix1 c) = KWord.area (fun k => p (ValueIdx.ix2 c k)) := by
  simp only [rowArea, KWord.area, mulf_apply, subf_apply]
  rw [coordRow p 0 (by omega), coordRow p 1 (by omega), coordRow p 2 (by omega), coordRow p 3 (by omega)]
  rfl

theorem boxArea_apply (b : S5000x4.Idx → F .f32) (j : Fin 5000) :
    boxArea b (ValueIdx.ix1 j) = KWord.area (fun k => b (ValueIdx.ix2 j k)) := by
  simp only [boxArea, KWord.area, mulf_apply, subf_apply, columnVec]
  rw [coordBox b 0 (by omega), coordBox b 1 (by omega), coordBox b 2 (by omega), coordBox b 3 (by omega)]
  rfl

/-- The tests as one array. -/
def overArr (p : S80x4.Idx → F .f32) (b : S5000x4.Idx → F .f32) (x : S5000x80.Idx → F .f32) : S5000x80.Idx → BitVec 1 :=
  cmpf .ogt
    (Host.divf x (addf (subf
      (addf (broadcastInDim S5000x80 ![0, 1] bcast_S1x80_S5000x80_0_1 (broadcastInDim S1x80 ![1] bcast_S80_S1x80_1 (rowArea p)))
        (broadcastInDim S5000x80 ![0, 1] bcast_S5000x1_S5000x80_0_1 (broadcastInDim S5000x1 ![0] bcast_S5000_S5000x1_0 (boxArea b)))) x)
      (broadcastInDim S5000x80 ![] bcast_S_S5000x80 (constant S_ .f32 0x322BCC77#32))))
    (broadcastInDim S5000x80 ![] bcast_S_S5000x80 (constant S_ .f32 0x3F000000#32))

theorem overArr_eq (V : Valuation τ sig (Elt F)) : after trip5 V (Proc.devRef .tc main_while0b_v102)
    = overArr (V (Proc.devRef .tc main_while0b_v34)) (V (Proc.devRef .tc main_v7_1)) (V (Proc.devRef .tc main_while0b_v69)) := by
  after_results
  rfl

theorem overArr_apply (p : S80x4.Idx → F .f32) (b : S5000x4.Idx → F .f32) (j : Fin 5000) (c : Fin 80) :
    overArr p b (interArr p b) (ValueIdx.ix2 j c) = hostHit (fun k => p (ValueIdx.ix2 c k)) (fun k => b (ValueIdx.ix2 j k)) := by
  have e : overArr p b (interArr p b) (ValueIdx.ix2 j c)
      = FloatOps.cmpf .ogt
          (FloatOps.hostDivf (interArr p b (ValueIdx.ix2 j c))
            (FloatOps.addf (FloatOps.subf
              (FloatOps.addf
                (broadcastInDim S5000x80 ![0, 1] bcast_S1x80_S5000x80_0_1 (broadcastInDim S1x80 ![1] bcast_S80_S1x80_1 (rowArea p)) (ValueIdx.ix2 j c))
                (broadcastInDim S5000x80 ![0, 1] bcast_S5000x1_S5000x80_0_1 (broadcastInDim S5000x1 ![0] bcast_S5000_S5000x1_0 (boxArea b)) (ValueIdx.ix2 j c)))
              (interArr p b (ValueIdx.ix2 j c))) (FloatOps.ofBits .f32 0x322BCC77#32)))
          (FloatOps.ofBits .f32 0x3F000000#32) := rfl
  rw [e, alongRow, alongCol, asCol, rowArea_apply, boxArea_apply, interArr_apply]
  rfl

end Cert.RefStep
-- ==== Proof.RefStep.lean ====
/-
  One trip of the reference's loop as a function of the scores and the outputs.
-/
module

public import proofs.«01_k».proof.Proof.RefOverlap

@[expose] public section

set_option maxRecDepth 100000

noncomputable section

namespace Cert.RefStep

open Cert.ReferenceIdeal Cert.ReferenceIdeal.Gen Cert.RefRun
open Idealize.ShloMosaic Idealize.ShloMosaic.TcCoe Idealize.ShloMosaic.Tactic
open Idealize.ShloMosaic.StableHlo
open Idealize.SL.Sem

variable {F : FTy → Type} [FloatOps F]

/-- Each class's index of the greatest score. -/
def best (s : S5000x80.Idx → F .f32) : S80.Idx → BitVec 32 := fun j =>
  (Host.argReduce reducer_argmax_f32_i32 s (iotaInDim S5000x80 32 0) (constant S_ .f32 0xFF800000#32) (constantI S_ 32 0#32)
    reducesTo_S5000x80_S80_d0 h_S_ j).2

/-- An index counted from the end when negative. -/
def wrap (n : BitVec 32) (v : S80.Idx → BitVec 32) : S80.Idx → BitVec 32 :=
  select (cmpi .slt v (broadcastInDim S80 ![] bcast_S_S80 (constantI S_ 32 0#32)))
    (addi v (broadcastInDim S80 ![] bcast_S_S80 (constantI S_ 32 n))) v

/-- One pair of indices per class. -/
def pairs (a cl : S80.Idx → BitVec 32) : S80x2.Idx → BitVec 32 :=
  concatenate S80x2 1 [⟨S80x1, broadcastInDim S80x1 ![0] bcast_S80_S80x1_0 (wrap 5000#32 a)⟩,
    ⟨S80x1, broadcastInDim S80x1 ![0] bcast_S80_S80x1_0 (wrap 80#32 cl)⟩] concatenates_S80x1_S80x1_S80x2_d1

/-- Each class's picked score. -/
def picked (a cl : S80.Idx → BitVec 32) (s : S5000x80.Idx → F .f32) : S80.Idx → F .f32 :=
  Host.gather gather_S5000x80_S80x2_S80_n_01_n_n_01_1_11 s (pairs a cl)

/-- Whether a class's picked score is finite. -/
def finiteAt (v : S80.Idx → F .f32) : S80.Idx → BitVec 1 :=
  cmpf .olt (Host.absf v) (broadcastInDim S80 ![] bcast_S_S80 (constant S_ .f32 0x7F800000#32))

/-- Each class's picked box. -/
def pickedBox (a : S80.Idx → BitVec 32) (b : S5000x4.Idx → F .f32) : S80x4.Idx → F .f32 :=
  Host.gather gather_S5000x4_S80x1_S80x4_1_0_n_n_0_1_14 b (broadcastInDim S80x1 ![0] bcast_S80_S80x1_0 (wrap 5000#32 a))

/-- A test per class along every row. -/
def perClass (v : S80.Idx → BitVec 1) : S5000x80.Idx → BitVec 1 := broadcastInDim S5000x80 ![1] bcast_S80_S5000x80_1 v

theorem best_eq (V : Valuation τ sig (Elt F)) : after trip1 V (Proc.devRef .tc main_while0b_v10) = best (V (Proc.devRef .tc main_v7_5)) := by
  after_results
  rfl

theorem picked_eq (V : Valuation τ sig (Elt F)) : after trip2 V (Proc.devRef .tc main_while0b_v24)
    = picked (V (Proc.devRef .tc main_while0b_v10)) (V (Proc.devRef .tc main_v7_0)) (V (Proc.devRef .tc main_v7_5)) := by
  after_results
  rfl

theorem finite_eq (V : Valuation τ sig (Elt F)) : after trip2 V (Proc.devRef .tc main_while0b_v27)
    = finiteAt (picked (V (Proc.devRef .tc main_while0b_v10)) (V (Proc.devRef .tc main_v7_0)) (V (Proc.devRef .tc main_v7_5))) := by
  after_results
  rfl

theorem pickedBox_eq (V : Valuation τ sig (Elt F)) : after trip3 V (Proc.devRef .tc main_while0b_v34)
    = pickedBox (V (Proc.devRef .tc main_while0b_v10)) (V (Proc.devRef .tc main_v7_1)) := by
  after_results
  rfl

theorem over_eq (V : Valuation τ sig (Elt F)) : after trip6 V (Proc.devRef .tc main_while0b_v103)
    = select (V (Proc.devRef .tc main_while0b_v102)) (broadcastInDim S5000x80 ![] bcast_S_S5000x80 (V (Proc.devRef .tc main_v7_2)))
        (V (Proc.devRef .tc main_v7_5)) := by
  after_results
  rfl

theorem cleared_eq (V : Valuation τ sig (Elt F)) : after trip7 V (Proc.devRef .tc main_while0b_v118)
    = Host.scatter scatter_S5000x80_S80x2_S80_n_01_01_1 (fun _ b => b) (V (Proc.devRef .tc main_while0b_v103))
        (pairs (V (Proc.devRef .tc main_while0b_v10)) (V (Proc.devRef .tc main_v7_0)))
        (broadcastInDim S80 ![] bcast_S_S80 (V (Proc.devRef .tc main_v7_2))) := by
  after_results
  rfl

theorem placed_eq (V : Valuation τ sig (Elt F)) : after trip8 V (Proc.devRef .tc main_while0b_v132)
    = Host.scatter scatter_S5000x80_S80x2_S80_n_01_01_1 (fun _ b => b) (V (Proc.devRef .tc main_v7_6))
        (pairs (V (Proc.devRef .tc main_while0b_v10)) (V (Proc.devRef .tc main_v7_0)))
        (V (Proc.devRef .tc main_while0b_v24)) := by
  after_results
  rfl

theorem outs_eq (V : Valuation τ sig (Elt F)) : after trip9 V (Proc.devRef .tc main_while0b_v133)
    = select (perClass (V (Proc.devRef .tc main_while0b_v27))) (V (Proc.devRef .tc main_while0b_v132)) (V (Proc.devRef .tc main_v7_6)) := by
  after_results
  rfl

theorem scores_eq (V : Valuation τ sig (Elt F)) : after trip10 V (Proc.devRef .tc main_while0b_v134)
    = select (perClass (V (Proc.devRef .tc main_while0b_v27))) (V (Proc.devRef .tc main_while0b_v118)) (V (Proc.devRef .tc main_v7_5)) := by
  after_results
  rfl

theorem carry5 (V : Valuation τ sig (Elt F)) : after trip11 V (Proc.devRef .tc main_v7_5) = V (Proc.devRef .tc main_while0b_v134) := by
  after_results
  rfl

theorem carry6 (V : Valuation τ sig (Elt F)) : after trip11 V (Proc.devRef .tc main_v7_6) = V (Proc.devRef .tc main_while0b_v133) := by
  after_results
  rfl

/-- The scores after one trip. -/
def nextS (cl : S80.Idx → BitVec 32) (b : S5000x4.Idx → F .f32) (ni : S_.Idx → F .f32) (s : S5000x80.Idx → F .f32) : S5000x80.Idx → F .f32 :=
  select (perClass (finiteAt (picked (best s) cl s)))
    (Host.scatter scatter_S5000x80_S80x2_S80_n_01_01_1 (fun _ b => b)
      (select (overArr (pickedBox (best s) b) b (interArr (pickedBox (best s) b) b)) (broadcastInDim S5000x80 ![] bcast_S_S5000x80 ni) s)
      (pairs (best s) cl) (broadcastInDim S80 ![] bcast_S_S80 ni))
    s

/-- The outputs after one trip. -/
def nextO (cl : S80.Idx → BitVec 32) (s o : S5000x80.Idx → F .f32) : S5000x80.Idx → F .f32 :=
  select (perClass (finiteAt (picked (best s) cl s)))
    (Host.scatter scatter_S5000x80_S80x2_S80_n_01_01_1 (fun _ b => b) o (pairs (best s) cl) (picked (best s) cl s)) o

/-- One trip as a whole. -/
theorem trip (V : Valuation τ sig (Elt F)) :
    afterL bodyI (after condOps V) (Proc.devRef .tc main_v7_5)
        = nextS (V (Proc.devRef .tc main_v7_0)) (V (Proc.devRef .tc main_v7_1)) (V (Proc.devRef .tc main_v7_2)) (V (Proc.devRef .tc main_v7_5))
      ∧ afterL bodyI (after condOps V) (Proc.devRef .tc main_v7_6)
        = nextO (V (Proc.devRef .tc main_v7_0)) (V (Proc.devRef .tc main_v7_5)) (V (Proc.devRef .tc main_v7_6))
      ∧ afterL bodyI (after condOps V) (Proc.devRef .tc main_v7_0) = V (Proc.devRef .tc main_v7_0)
      ∧ afterL bodyI (after condOps V) (Proc.devRef .tc main_v7_1) = V (Proc.devRef .tc main_v7_1)
      ∧ afterL bodyI (after condOps V) (Proc.devRef .tc main_v7_2) = V (Proc.devRef .tc main_v7_2)
      ∧ afterL bodyI (after condOps V) (Proc.devRef .tc main_arg0) = V (Proc.devRef .tc main_arg0)
      ∧ afterL bodyI (after condOps V) (Proc.devRef .tc main_arg1) = V (Proc.devRef .tc main_arg1) := by
  simp only [afterL_cons, afterL_nil]
  obtain ⟨Vc, ec, kc⟩ : ∃ X, after condOps V = X ∧ ∀ r, r ∉ condOps_W → X (Proc.devRef .tc r) = V (Proc.devRef .tc r) :=
    ⟨_, rfl, fun r h => after_of_writes_sub condOps V condOps_writes h⟩
  obtain ⟨V0, e0, k0⟩ : ∃ X, after trip0 Vc = X ∧ (∀ r, r ∉ trip0_W → X (Proc.devRef .tc r) = Vc (Proc.devRef .tc r)) :=
    ⟨_, rfl, fun r h => after_of_writes_sub trip0 Vc trip0_writes h⟩
  obtain ⟨V1, e1, k1, hb⟩ : ∃ X, after trip1 V0 = X ∧ (∀ r, r ∉ trip1_W → X (Proc.devRef .tc r) = V0 (Proc.devRef .tc r))
      ∧ X (Proc.devRef .tc main_while0b_v10) = best (V0 (Proc.devRef .tc main_v7_5)) :=
    ⟨_, rfl, fun r h => after_of_writes_sub trip1 V0 trip1_writes h, best_eq V0⟩
  obtain ⟨V2, e2, k2, hp, hf⟩ : ∃ X, after trip2 V1 = X ∧ (∀ r, r ∉ trip2_W → X (Proc.devRef .tc r) = V1 (Proc.devRef .tc r))
      ∧ X (Proc.devRef .tc main_while0b_v24) = picked (V1 (Proc.devRef .tc main_while0b_v10)) (V1 (Proc.devRef .tc main_v7_0)) (V1 (Proc.devRef .tc main_v7_5))
      ∧ X (Proc.devRef .tc main_while0b_v27) = finiteAt (picked (V1 (Proc.devRef .tc main_while0b_v10)) (V1 (Proc.devRef .tc main_v7_0)) (V1 (Proc.devRef .tc main_v7_5))) :=
    ⟨_, rfl, fun r h => after_of_writes_sub trip2 V1 trip2_writes h, picked_eq V1, finite_eq V1⟩
  obtain ⟨V3, e3, k3, hx⟩ : ∃ X, after trip3 V2 = X ∧ (∀ r, r ∉ trip3_W → X (Proc.devRef .tc r) = V2 (Proc.devRef .tc r))
      ∧ X (Proc.devRef .tc main_while0b_v34) = pickedBox (V2 (Proc.devRef .tc main_while0b_v10)) (V2 (Proc.devRef .tc main_v7_1)) :=
    ⟨_, rfl, fun r h => after_of_writes_sub trip3 V2 trip3_writes h, pickedBox_eq V2⟩
  obtain ⟨V4, e4, k4, hi⟩ : ∃ X, after trip4 V3 = X ∧ (∀ r, r ∉ trip4_W → X (Proc.devRef .tc r) = V3 (Proc.devRef .tc r))
      ∧ X (Proc.devRef .tc main_while0b_v69) = interArr (V3 (Proc.devRef .tc main_while0b_v34)) (V3 (Proc.devRef .tc main_v7_1)) :=
    ⟨_, rfl, fun r h => after_of_writes_sub trip4 V3 trip4_writes h, interArr_eq V3⟩
  obtain ⟨V5, e5, k5, ho⟩ : ∃ X, after trip5 V4 = X ∧ (∀ r, r ∉ trip5_W → X (Proc.devRef .tc r) = V4 (Proc.devRef .tc r))
      ∧ X (Proc.devRef .tc main_while0b_v102) = overArr (V4 (Proc.devRef .tc main_while0b_v34)) (V4 (Proc.devRef .tc main_v7_1)) (V4 (Proc.devRef .tc main_while0b_v69)) :=
    ⟨_, rfl, fun r h => after_of_writes_sub trip5 V4 trip5_writes h, overArr_eq V4⟩
  obtain ⟨V6, e6, k6, hs⟩ : ∃ X, after trip6 V5 = X ∧ (∀ r, r ∉ trip6_W → X (Proc.devRef .tc r) = V5 (Proc.devRef .tc r))
      ∧ X (Proc.devRef .tc main_while0b_v103) = select (V5 (Proc.devRef .tc main_while0b_v102)) (broadcastInDim S5000x80 ![] bcast_S_S5000x80 (V5 (Proc.devRef .tc main_v7_2))) (V5 (Proc.devRef .tc main_v7_5)) :=
    ⟨_, rfl, fun r h => after_of_writes_sub trip6 V5 trip6_writes h, over_eq V5⟩
  obtain ⟨V7, e7, k7, hc⟩ : ∃ X, after trip7 V6 = X ∧ (∀ r, r ∉ trip7_W → X (Proc.devRef .tc r) = V6 (Proc.devRef .tc r))
      ∧ X (Proc.devRef .tc main_while0b_v118) = Host.scatter scatter_S5000x80_S80x2_S80_n_01_01_1 (fun _ b => b) (V6 (Proc.devRef .tc main_while0b_v103))
        (pairs (V6 (Proc.devRef .tc main_while0b_v10)) (V6 (Proc.devRef .tc main_v7_0))) (broadcastInDim S80 ![] bcast_S_S80 (V6 (Proc.devRef .tc main_v7_2))) :=
    ⟨_, rfl, fun r h => after_of_writes_sub trip7 V6 trip7_writes h, cleared_eq V6⟩
  obtain ⟨V8, e8, k8, hl⟩ : ∃ X, after trip8 V7 = X ∧ (∀ r, r ∉ trip8_W → X (Proc.devRef .tc r) = V7 (Proc.devRef .tc r))
      ∧ X (Proc.devRef .tc main_while0b_v132) = Host.scatter scatter_S5000x80_S80x2_S80_n_01_01_1 (fun _ b => b) (V7 (Proc.devRef .tc main_v7_6))
        (pairs (V7 (Proc.devRef .tc main_while0b_v10)) (V7 (Proc.devRef .tc main_v7_0))) (V7 (Proc.devRef .tc main_while0b_v24)) :=
    ⟨_, rfl, fun r h => after_of_writes_sub trip8 V7 trip8_writes h, placed_eq V7⟩
  obtain ⟨V9, e9, k9, hu⟩ : ∃ X, after trip9 V8 = X ∧ (∀ r, r ∉ trip9_W → X (Proc.devRef .tc r) = V8 (Proc.devRef .tc r))
      ∧ X (Proc.devRef .tc main_while0b_v133) = select (perClass (V8 (Proc.devRef .tc main_while0b_v27))) (V8 (Proc.devRef .tc main_while0b_v132)) (V8 (Proc.devRef .tc main_v7_6)) :=
    ⟨_, rfl, fun r h => after_of_writes_sub trip9 V8 trip9_writes h, outs_eq V8⟩
  obtain ⟨V10, e10, k10, hv⟩ : ∃ X, after trip10 V9 = X ∧ (∀ r, r ∉ trip10_W → X (Proc.devRef .tc r) = V9 (Proc.devRef .tc r))
      ∧ X (Proc.devRef .tc main_while0b_v134) = select (perClass (V9 (Proc.devRef .tc main_while0b_v27))) (V9 (Proc.devRef .tc main_while0b_v118)) (V9 (Proc.devRef .tc main_v7_5)) :=
    ⟨_, rfl, fun r h => after_of_writes_sub trip10 V9 trip10_writes h, scores_eq V9⟩
  obtain ⟨V11, e11, k11, h5, h6⟩ : ∃ X, after trip11 V10 = X ∧ (∀ r, r ∉ trip11_W → X (Proc.devRef .tc r) = V10 (Proc.devRef .tc r))
      ∧ X (Proc.devRef .tc main_v7_5) = V10 (Proc.devRef .tc main_while0b_v134)
      ∧ X (Proc.devRef .tc main_v7_6) = V10 (Proc.devRef .tc main_while0b_v133) :=
    ⟨_, rfl, fun r h => after_of_writes_sub trip11 V10 trip11_writes h, carry5 V10, carry6 V10⟩
  rw [ec, e0, e1, e2, e3, e4, e5, e6, e7, e8, e9, e10, e11]
  clear ec e0 e1 e2 e3 e4 e5 e6 e7 e8 e9 e10 e11
  refine ⟨?_, ?_, ?_, ?_, ?_, ?_, ?_⟩
  · unfold nextS
    simp (disch := decide +kernel) only [h5, hv, hf, hc, hs, ho, hi, hx, hb, kc, k0, k1, k2, k3, k4, k5, k6, k7, k8, k9, k10]
    rfl
  · unfold nextO
    simp (disch := decide +kernel) only [h6, hu, hf, hl, hp, hb, kc, k0, k1, k2, k3, k4, k5, k6, k7, k8, k9, k10]
    rfl
  all_goals
    simp (disch := decide +kernel) only [kc, k0, k1, k2, k3, k4, k5, k6, k7, k8, k9, k10, k11]

variable (m : (ℓ : Loc nD τ sig) → Buf (Elt F) ℓ) (ρ : Dev nD → PrngReg)

/-- The scores and the outputs after `k` trips. -/
def state (cl : S80.Idx → BitVec 32) (b : S5000x4.Idx → F .f32) (ni : S_.Idx → F .f32) (s o : S5000x80.Idx → F .f32) :
    ℕ → (S5000x80.Idx → F .f32) × (S5000x80.Idx → F .f32)
  | 0 => (s, o)
  | k + 1 => (nextS cl b ni (state cl b ni s o k).1, nextO cl (state cl b ni s o k).1 (state cl b ni s o k).2)

/-- The boxes, one per row. -/
def boxes (c : Dev nD) : S5000x4.Idx → F .f32 := shapeCast S5000x4 (m ((c.tc : Thread nD τ).loc main_arg0)) shapeCasts_S1x5000x4_S5000x4

/-- The scores before the first trip. -/
def scores0 (c : Dev nD) : S5000x80.Idx → F .f32 :=
  select (cmpf .ogt (shapeCast S5000x80 (m ((c.tc : Thread nD τ).loc main_arg1)) shapeCasts_S1x5000x80_S5000x80)
      (broadcastInDim S5000x80 ![] bcast_S_S5000x80 (constant S_ .f32 0x3D4CCCCD#32)))
    (shapeCast S5000x80 (m ((c.tc : Thread nD τ).loc main_arg1)) shapeCasts_S1x5000x80_S5000x80)
    (broadcastInDim S5000x80 ![] bcast_S_S5000x80 (constant S_ .f32 0xFF800000#32))

/-- The loop's contents of the two carried arrays. -/
abbrev stateOf (c : Dev nD) (k : ℕ) : (S5000x80.Idx → F .f32) × (S5000x80.Idx → F .f32) :=
  state (iotaInDim S80 32 0) (boxes m c) (constant S_ .f32 0xFF800000#32) (scores0 m c)
    (broadcastInDim S5000x80 ![] bcast_S_S5000x80 (constant S_ .f32 0x00000000#32)) k

theorem entry (c : Dev nD) :
    entryContents preI m c (Proc.devRef .tc main_v7_5) = scores0 m c
      ∧ entryContents preI m c (Proc.devRef .tc main_v7_6) = broadcastInDim S5000x80 ![] bcast_S_S5000x80 (constant S_ .f32 0x00000000#32)
      ∧ entryContents preI m c (Proc.devRef .tc main_v7_0) = (iotaInDim S80 32 0 : S80.Idx → BitVec 32)
      ∧ entryContents preI m c (Proc.devRef .tc main_v7_1) = boxes m c
      ∧ entryContents preI m c (Proc.devRef .tc main_v7_2) = constant S_ .f32 0xFF800000#32
      ∧ entryContents preI m c (Proc.devRef .tc main_arg0) = m ((c.tc : Thread nD τ).loc main_arg0)
      ∧ entryContents preI m c (Proc.devRef .tc main_arg1) = m ((c.tc : Thread nD τ).loc main_arg1) := by
  simp only [entryContents, afterL_cons, afterL_nil]
  refine ⟨?_, ?_, ?_, ?_, ?_, ?_, ?_⟩
  all_goals
    after_reads_simp
    try rfl

theorem atK_state (c : Dev nD) : ∀ k,
    atK m k c (Proc.devRef .tc main_v7_5) = (stateOf m c k).1
      ∧ atK m k c (Proc.devRef .tc main_v7_6) = (stateOf m c k).2
      ∧ atK m k c (Proc.devRef .tc main_v7_0) = (iotaInDim S80 32 0 : S80.Idx → BitVec 32)
      ∧ atK m k c (Proc.devRef .tc main_v7_1) = boxes m c
      ∧ atK m k c (Proc.devRef .tc main_v7_2) = constant S_ .f32 0xFF800000#32
      ∧ atK m k c (Proc.devRef .tc main_arg0) = m ((c.tc : Thread nD τ).loc main_arg0)
      ∧ atK m k c (Proc.devRef .tc main_arg1) = m ((c.tc : Thread nD τ).loc main_arg1)
  | 0 => entry m c
  | k + 1 => by
    obtain ⟨h5, h6, h0, h1, h2, ha, hb⟩ := atK_state c k
    obtain ⟨t5, t6, t0, t1, t2, ta, tb⟩ := trip (atK m k c)
    rw [show atK m (k + 1) c = afterL bodyI (after condOps (atK m k c)) from rfl]
    refine ⟨?_, ?_, t0.trans h0, t1.trans h1, t2.trans h2, ta.trans ha, tb.trans hb⟩
    · rw [t5, h0, h1, h2, h5]; rfl
    · rw [t6, h0, h5, h6]; rfl

theorem final_out (c : Dev nD) : finalContents condOps preI bodyI postI 300 m c (Proc.devRef .tc main_v8)
    = broadcastInDim S1x5000x80 ![1, 2] bcast_S5000x80_S1x5000x80_1_2 (stateOf m c 300).2 := by
  rw [show finalContents condOps preI bodyI postI 300 m c = after post0 (after condOps (atK m 300 c)) from rfl,
    show after post0 (after condOps (atK m 300 c)) (Proc.devRef .tc main_v8)
      = broadcastInDim S1x5000x80 ![1, 2] bcast_S5000x80_S1x5000x80_1_2 (after condOps (atK m 300 c) (Proc.devRef .tc main_v7_6)) from by
        generalize after condOps (atK m 300 c) = V
        after_results,
    after_of_writes_sub condOps _ condOps_writes (show main_v7_6 ∉ condOps_W by decide +kernel), (atK_state m c 300).2.1]

theorem final_arg0 (c : Dev nD) : finalContents condOps preI bodyI postI 300 m c (Proc.devRef .tc main_arg0) = m ((c.tc : Thread nD τ).loc main_arg0) := by
  rw [show finalContents condOps preI bodyI postI 300 m c = after post0 (after condOps (atK m 300 c)) from rfl,
    after_of_writes_sub post0 _ post0_writes (show main_arg0 ∉ post0_W by decide +kernel),
    after_of_writes_sub condOps _ condOps_writes (show main_arg0 ∉ condOps_W by decide +kernel), (atK_state m c 300).2.2.2.2.2.1]

theorem final_arg1 (c : Dev nD) : finalContents condOps preI bodyI postI 300 m c (Proc.devRef .tc main_arg1) = m ((c.tc : Thread nD τ).loc main_arg1) := by
  rw [show finalContents condOps preI bodyI postI 300 m c = after post0 (after condOps (atK m 300 c)) from rfl,
    after_of_writes_sub post0 _ post0_writes (show main_arg1 ∉ post0_W by decide +kernel),
    after_of_writes_sub condOps _ condOps_writes (show main_arg1 ∉ condOps_W by decide +kernel), (atK_state m c 300).2.2.2.2.2.2]

/-- The reference has no semaphore. -/
theorem no_sem (g : GSem nD τ sig) : False := by
  obtain ⟨_, s⟩ := g
  rcases s with s | s <;> exact absurd s.isLt (Nat.not_lt_zero _)

/-- THE RUN: the result is the loop's outputs after all trips; the arguments are unchanged and every counter reads zero. -/
theorem run : θ_run (defs (F := F)) (onTc (τ := τ) (main (F := F))) ⟨m, fun _ => 0, ρ⟩
    (fun r => (∀ c : Dev nD,
        r.2.mem ((c.tc : Thread nD τ).loc main_v8) = broadcastInDim S1x5000x80 ![1, 2] bcast_S5000x80_S1x5000x80_1_2 (stateOf m c 300).2
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run _ _ _).mono (fun r h =>
    ⟨fun c => ⟨(h c main_v8 rfl).trans (final_out m c), (h c main_arg0 rfl).trans (final_arg0 m c), (h c main_arg1 rfl).trans (final_arg1 m c)⟩,
      funext fun g => (no_sem g).elim⟩)
    (run_fold m ρ)

end Cert.RefStep
-- ==== Proof.RefIndex.lean ====
/-
  The reference's gathers and scatters read at an index, where each class's word names a row.
-/
module

public import proofs.«01_k».proof.Proof.RefStep
public import Idealize.ShloMosaic.Lib.Routing.OpsSet
public import Idealize.ShloMosaic.Lib.Routing.OpsPair

@[expose] public section

set_option maxRecDepth 100000

noncomputable section

namespace Cert.RefStep

open Cert.ReferenceIdeal Cert.ReferenceIdeal.Gen Cert.RefRun
open Idealize.ShloMosaic Idealize.ShloMosaic.TcCoe Idealize.ShloMosaic.Tactic

/-- A word of a row number is not negative, so it is left as it is. -/
theorem wrap_row (n : BitVec 32) (v : S80.Idx → BitVec 32) (c : Fin 80) (k : ℕ) (hk : k < 2 ^ 31) (h : v (ValueIdx.ix1 c) = BitVec.ofNat 32 k) :
    wrap n v (ValueIdx.ix1 c) = BitVec.ofNat 32 k := by
  have e : wrap n v (ValueIdx.ix1 c)
      = Scalar.select (IntOp.cmpi .slt (v (ValueIdx.ix1 c)) 0#32) (IntOp.addi (v (ValueIdx.ix1 c)) n) (v (ValueIdx.ix1 c)) := rfl
  rw [e, Routing.wrap_of_lt _ _ (by rw [h, BitVec.toNat_ofNat]; show k % 2 ^ 32 < 2 ^ 31; omega), h]

theorem toInt_row (k : ℕ) (hk : k < 2 ^ 31) : (BitVec.ofNat 32 k).toInt = k :=
  StableHlo.Predicate.toInt_ofNat_small _ (by omega)

theorem col_apply (v : S80.Idx → BitVec 32) (c : Fin 80) :
    broadcastInDim S80x1 ![0] bcast_S80_S80x1_0 v (ValueIdx.ix2 c (0 : Fin 1)) = v (ValueIdx.ix1 c) :=
  broadcastInDim_apply _ _ _ _ (ValueIdx.ix1 c) fun ax => by match ax with | ⟨0, _⟩ => rfl

theorem pair_zero {α : Type} (x y : S80x1.Idx → α) (h : Shape.Concatenates [S80x1, S80x1] S80x2 (1 : Fin 2)) (c : Fin 80) :
    concatenate S80x2 (1 : Fin 2) [⟨S80x1, x⟩, ⟨S80x1, y⟩] h (ValueIdx.ix2 c (0 : Fin 2)) = x (ValueIdx.ix2 c (0 : Fin 1)) := by
  refine concatenate_pair_apply_left (t := S80x2) (1 : Fin 2) x y h _ rfl (ValueIdx.ix2 c (0 : Fin 1)) fun ax => ?_
  match ax with | ⟨0, _⟩ => rfl | ⟨1, _⟩ => rfl

theorem pair_one {α : Type} (x y : S80x1.Idx → α) (h : Shape.Concatenates [S80x1, S80x1] S80x2 (1 : Fin 2)) (c : Fin 80) :
    concatenate S80x2 (1 : Fin 2) [⟨S80x1, x⟩, ⟨S80x1, y⟩] h (ValueIdx.ix2 c (1 : Fin 2)) = y (ValueIdx.ix2 c (0 : Fin 1)) := by
  refine concatenate_pair_apply_right (t := S80x2) (1 : Fin 2) x y h _ rfl rfl (ValueIdx.ix2 c (0 : Fin 1)) (fun ax => ?_) rfl
  match ax with | ⟨0, _⟩ => intro _; rfl | ⟨1, _⟩ => intro e; exact absurd rfl e

theorem pairs_zero (a cl : S80.Idx → BitVec 32) (c : Fin 80) : pairs a cl (ValueIdx.ix2 c (0 : Fin 2)) = wrap 5000#32 a (ValueIdx.ix1 c) := by
  unfold pairs
  rw [pair_zero, col_apply]

theorem pairs_one (a cl : S80.Idx → BitVec 32) (c : Fin 80) : pairs a cl (ValueIdx.ix2 c (1 : Fin 2)) = wrap 80#32 cl (ValueIdx.ix1 c) := by
  unfold pairs
  rw [pair_one, col_apply]

abbrev gd := gather_S5000x80_S80x2_S80_n_01_n_n_01_1_11
abbrev sd := scatter_S5000x80_S80x2_S80_n_01_01_1
abbrev bd := gather_S5000x4_S80x1_S80x4_1_0_n_n_0_1_14

/-- The gather by pairs reads the entry that a class's two words name. -/
theorem gather_pair {α : Type} (x : S5000x80.Idx → α) (idx : S80x2.Idx → BitVec 32) (c : Fin 80) (i : Fin 5000) (k : Fin 80)
    (h0 : idx (ValueIdx.ix2 c (0 : Fin 2)) = BitVec.ofNat 32 i.val) (h1 : idx (ValueIdx.ix2 c (1 : Fin 2)) = BitVec.ofNat 32 k.val) :
    Host.gather gd x idx (ValueIdx.ix1 c) = x (ValueIdx.ix2 i k) := by
  have e : ∀ q : Fin 2, gd.siIdx (ValueIdx.ix1 c) ⟨q.val, q.isLt⟩ = ValueIdx.ix2 c q := fun q => funext fun b => by
    match b with
    | ⟨0, _⟩ => rfl
    | ⟨1, _⟩ => rfl
  have hi := i.isLt
  have hk := k.isLt
  refine congrArg x (funext fun a => Fin.ext ?_)
  match a with
  | ⟨0, _⟩ =>
    show min (idx (gd.siIdx (ValueIdx.ix1 c) ⟨(0 : Fin 2).val, (0 : Fin 2).isLt⟩)).toInt.toNat (5000 - 1) + 0 + 0 = i.val
    rw [e, h0, toInt_row _ (by omega)]
    omega
  | ⟨1, _⟩ =>
    show min (idx (gd.siIdx (ValueIdx.ix1 c) ⟨(1 : Fin 2).val, (1 : Fin 2).isLt⟩)).toInt.toNat (80 - 1) + 0 + 0 = k.val
    rw [e, h1, toInt_row _ (by omega)]
    omega

theorem sd_start (idx : S80x2.Idx → BitVec 32) (c : Fin 80) (q : Fin 2) :
    sd.start (ValueIdx.ix1 c) idx q = (idx (ValueIdx.ix2 c q)).toInt := by
  have e : ∀ q : Fin 2, sd.siIdx (ValueIdx.ix1 c) ⟨q.val, q.isLt⟩ = ValueIdx.ix2 c q := fun q => funext fun b => by
    match b with
    | ⟨0, _⟩ => rfl
    | ⟨1, _⟩ => rfl
  rw [← e]
  match q with
  | ⟨0, _⟩ => rfl
  | ⟨1, _⟩ => rfl

/-- Where an update lands: at the entry that its two words name. -/
theorem sd_lands (idx : S80x2.Idx → BitVec 32) (c : Fin 80) (i j : Fin 5000) (k k' : Fin 80)
    (h0 : idx (ValueIdx.ix2 c (0 : Fin 2)) = BitVec.ofNat 32 i.val) (h1 : idx (ValueIdx.ix2 c (1 : Fin 2)) = BitVec.ofNat 32 k.val) :
    sd.resultIdx? (ValueIdx.ix1 c) idx = some (ValueIdx.ix2 j k') ↔ i = j ∧ k = k' := by
  have hi := i.isLt
  have hk := k.isLt
  rw [Routing.resultIdx?_eq_some]
  have w : ∀ q : Fin 2, sd.window (ValueIdx.ix1 c) q = 0 := fun q => by match q with | ⟨0, _⟩ => rfl | ⟨1, _⟩ => rfl
  constructor
  · intro h
    have a0 := h 0
    have a1 := h 1
    rw [sd_start, w, h0, toInt_row _ (by omega)] at a0
    rw [sd_start, w, h1, toInt_row _ (by omega)] at a1
    have b0 : (i.val : Int) + ((0 : ℕ) : Int) = (j.val : Int) := a0
    have b1 : (k.val : Int) + ((0 : ℕ) : Int) = (k'.val : Int) := a1
    exact ⟨Fin.ext (by omega), Fin.ext (by omega)⟩
  · rintro ⟨rfl, rfl⟩ a
    match a with
    | ⟨0, _⟩ =>
      show sd.start (ValueIdx.ix1 c) idx (0 : Fin 2) + (sd.window (ValueIdx.ix1 c) (0 : Fin 2) : Int) = (i.val : Int)
      rw [sd_start, w, h0, toInt_row _ (by omega)]; simp
    | ⟨1, _⟩ =>
      show sd.start (ValueIdx.ix1 c) idx (1 : Fin 2) + (sd.window (ValueIdx.ix1 c) (1 : Fin 2) : Int) = (k.val : Int)
      rw [sd_start, w, h1, toInt_row _ (by omega)]; simp

/-- The scatter by pairs, each class's pair naming an entry of its own column. -/
theorem scatter_pair {α : Type} (x : S5000x80.Idx → α) (idx : S80x2.Idx → BitVec 32) (upd : S80.Idx → α) (i : Fin 80 → Fin 5000)
    (h0 : ∀ c : Fin 80, idx (ValueIdx.ix2 c (0 : Fin 2)) = BitVec.ofNat 32 (i c).val)
    (h1 : ∀ c : Fin 80, idx (ValueIdx.ix2 c (1 : Fin 2)) = BitVec.ofNat 32 c.val) (j : Fin 5000) (c : Fin 80) :
    Host.scatter sd (fun _ b => b) x idx upd (ValueIdx.ix2 j c) = if i c = j then upd (ValueIdx.ix1 c) else x (ValueIdx.ix2 j c) := by
  split
  · next e =>
    refine Routing.scatter_set_hit sd x idx upd _ _ (fun k hk => ?_) (ValueIdx.ix1 c) ((sd_lands idx c (i c) j c c (h0 c) (h1 c)).2 ⟨e, rfl⟩)
    obtain ⟨c', rfl⟩ : ∃ c' : Fin 80, k = ValueIdx.ix1 c' := ⟨k 0, ValueIdx.eq_ix1 k⟩
    rw [((sd_lands idx c' (i c') j c' c (h0 c') (h1 c')).1 hk).2]
  · next e =>
    refine Routing.scatter_set_miss sd x idx upd _ fun k hk => ?_
    obtain ⟨c', rfl⟩ : ∃ c' : Fin 80, k = ValueIdx.ix1 c' := ⟨k 0, ValueIdx.eq_ix1 k⟩
    obtain ⟨a, rfl⟩ := (sd_lands idx c' (i c') j c' c (h0 c') (h1 c')).1 hk
    exact e a

/-- The picked box is the row that a class's word names. -/
theorem pickedBox_apply {F : FTy → Type} [FloatOps F] (a : S80.Idx → BitVec 32) (b : S5000x4.Idx → F .f32) (c : Fin 80) (i : Fin 5000)
    (h : a (ValueIdx.ix1 c) = BitVec.ofNat 32 i.val) (k : Fin 4) : pickedBox a b (ValueIdx.ix2 c k) = b (ValueIdx.ix2 i k) := by
  have hi := i.isLt
  exact Routing.gather_row bd rfl rfl rfl rfl rfl b _ c k i ((col_apply _ c).trans (wrap_row _ _ _ _ (by omega) h)) (by omega)

end Cert.RefStep
-- ==== Proof.RefBest.lean ====
/-
  The reference's chosen box of a class is the first one of the greatest score.
-/
module

public import proofs.«01_k».proof.Proof.RefIndex
public import proofs.«01_k».proof.Proof.First

@[expose] public section

set_option maxRecDepth 100000

noncomputable section

namespace Cert.RefStep

open Idealize Idealize.ShloMosaic
open Cert.ReferenceIdeal Cert.ReferenceIdeal.Gen
open Cert.Pick

theorem reducer_eq (a b : Ideal .f32 × BitVec 32) :
    reducer_argmax_f32_i32 a b = if b.1 < a.1 ∨ (a.1 = b.1 ∧ a.2.toInt < b.2.toInt) then a else b := by
  obtain ⟨x, i⟩ := a
  obtain ⟨y, k⟩ := b
  simp only [reducer_argmax_f32_i32]
  rcases lt_trichotomy (α := EReal) x y with h | h | h
  · simp [FloatOps.cmpf, Ideal.cmp, IntOp.ori, IntOp.andi, Scalar.select, h.ne, h.not_gt]
  · subst h
    by_cases hk : i.toInt < k.toInt <;>
    simp [FloatOps.cmpf, Ideal.cmp, IntOp.ori, IntOp.andi, IntOp.cmpi, Scalar.select, BitVec.slt, hk]
  · simp [FloatOps.cmpf, Ideal.cmp, IntOp.ori, IntOp.andi, Scalar.select, h, h.ne']

theorem reducer_before (a b : Ideal .f32 × BitVec 32) :
    (reducer_argmax_f32_i32 a b = a ∧ Before a b) ∨ (reducer_argmax_f32_i32 a b = b ∧ Before b a) := by
  rw [reducer_eq]
  split
  · next h => exact Or.inl ⟨rfl, h.imp id fun h => ⟨h.1, h.2.le⟩⟩
  · next h =>
    rw [not_or, not_and, not_lt, not_lt] at h
    refine Or.inr ⟨rfl, ?_⟩
    rcases lt_or_eq_of_le h.1 with l | e
    · exact Or.inl l
    · exact Or.inr ⟨e.symm, h.2 e⟩

theorem drop_eq (j : Fin 5000) (c : Fin 80) : reducesTo_S5000x80_S80_d0.drop (ValueIdx.ix2 j c) = ValueIdx.ix1 c := by
  funext b
  match b with
  | ⟨0, _⟩ => exact Fin.ext (Shape.ReducesTo.drop_apply_val reducesTo_S5000x80_S80_d0 (ValueIdx.ix2 j c) 0)

theorem best_first (s : S5000x80.Idx → Ideal .f32) (c : Fin 80) :
    ∃ i : Fin 5000, best s (ValueIdx.ix1 c) = BitVec.ofNat 32 i.val ∧ IsFirst (fun j => s (ValueIdx.ix2 j c)) i := by
  unfold best
  rw [Ideal.argReduce_eq_reduce2, Host.reduce2_eq_foldl_fiber]
  obtain ⟨hm, hp, hl⟩ := foldl_before _ reducer_before
    (Host.argReduceFiber s (iotaInDim S5000x80 32 0) reducesTo_S5000x80_S80_d0 (ValueIdx.ix1 c))
    (constant (F := Ideal) S_ .f32 0xFF800000#32 (Shape.Idx.first h_S_), constantI S_ 32 0#32 (Shape.Idx.first h_S_))
  generalize List.foldl _ _ _ = r at hm hp hl ⊢
  have hall : ∀ j : Fin 5000, Before r (s (ValueIdx.ix2 j c), BitVec.ofNat 32 j.val) := fun j => hl _ (by
    unfold Host.argReduceFiber
    refine List.mem_map.2 ⟨S5000x80.rowMajor (ValueIdx.ix2 j c), List.mem_filter.2 ⟨List.mem_finRange _, ?_⟩, ?_⟩
    · rw [Equiv.symm_apply_apply, drop_eq]; simp
    · rw [Equiv.symm_apply_apply]; rfl)
  have key : ∀ i : Fin 5000, r = (s (ValueIdx.ix2 i c), BitVec.ofNat 32 i.val) → r.2 = BitVec.ofNat 32 i.val ∧
      IsFirst (fun j => s (ValueIdx.ix2 j c)) i := by
    rintro i rfl
    refine ⟨rfl, fun j => ?_, fun j h => ?_⟩
    · rcases hall j with h | h
      · exact h.le
      · exact h.1.ge
    · rcases hall j with h' | h'
      · exact absurd h h'.ne
      · have := h'.2
        simp only at this
        rw [toInt_row _ (by omega), toInt_row _ (by omega)] at this
        exact Fin.le_def.2 (by omega)
  rcases hm with e | e
  · have hb : r = (⊥, 0#32) := e.trans (Prod.ext (bits_ninf) rfl)
    have hs : ∀ j : Fin 5000, s (ValueIdx.ix2 j c) = ⊥ := fun j => by
      rcases hall j with h | h
      · rw [hb] at h; exact absurd h not_lt_bot
      · rw [hb] at h; exact h.1.symm
    exact ⟨0, key 0 (by rw [hb, hs]; rfl)⟩
  · unfold Host.argReduceFiber at e
    obtain ⟨n, hn, e⟩ := List.mem_map.1 e
    obtain ⟨j, k, hjk⟩ : ∃ (j : Fin 5000) (k : Fin 80), S5000x80.rowMajor.symm n = ValueIdx.ix2 j k := ⟨_, _, ValueIdx.eq_ix2 _⟩
    have hd := of_decide_eq_true (List.mem_filter.1 hn).2
    rw [hjk, drop_eq] at hd
    have hk : k = c := congrFun hd 0
    rw [hjk, hk] at e
    exact ⟨j, key j (e.symm.trans rfl)⟩

end Cert.RefStep
-- ==== Proof.RefIdeal.lean ====
/-
  One trip of the reference read at a box and a class.
-/
module

public import proofs.«01_k».proof.Proof.RefBest

@[expose] public section

set_option maxRecDepth 100000

noncomputable section

namespace Cert.RefStep

open Idealize Idealize.ShloMosaic
open Cert.ReferenceIdeal Cert.ReferenceIdeal.Gen
open Cert.Pick

/-- The classes, each class its own number. -/
abbrev classes : S80.Idx → BitVec 32 := iotaInDim S80 32 0

/-- Minus infinity. -/
abbrev ninf : S_.Idx → Ideal .f32 := constant S_ .f32 0xFF800000#32

section
variable (s : S5000x80.Idx → Ideal .f32) (i : Fin 80 → Fin 5000) (hi : ∀ c, best s (ValueIdx.ix1 c) = BitVec.ofNat 32 (i c).val)
include hi

theorem pairs0 (c : Fin 80) : pairs (best s) classes (ValueIdx.ix2 c (0 : Fin 2)) = BitVec.ofNat 32 (i c).val := by
  have := (i c).isLt
  exact (pairs_zero _ _ c).trans (wrap_row _ _ _ _ (by omega) (hi c))

omit hi in
theorem pairs1 (c : Fin 80) : pairs (best s) classes (ValueIdx.ix2 c (1 : Fin 2)) = BitVec.ofNat 32 c.val := by
  have := c.isLt
  exact (pairs_one _ _ c).trans (wrap_row _ _ _ _ (by omega) rfl)

theorem picked_apply (c : Fin 80) : picked (best s) classes s (ValueIdx.ix1 c) = s (ValueIdx.ix2 (i c) c) :=
  gather_pair s _ c (i c) c (pairs0 s i hi c) (pairs1 s c)

theorem finite_apply (j : Fin 5000) (c : Fin 80) :
    perClass (finiteAt (picked (best s) classes s)) (ValueIdx.ix2 j c)
      = BitVec.ofBool (decide (max (s (ValueIdx.ix2 (i c) c)) (-(s (ValueIdx.ix2 (i c) c))) < (⊤ : EReal))) := by
  have e : perClass (finiteAt (picked (best s) classes s)) (ValueIdx.ix2 j c) = finiteAt (picked (best s) classes s) (ValueIdx.ix1 c) :=
    broadcastInDim_apply _ _ _ _ (ValueIdx.ix1 c) fun ax => by match ax with | ⟨0, _⟩ => rfl
  rw [e, ← picked_apply s i hi c, ← bits_pinf]
  rfl

theorem nextS_apply (b : S5000x4.Idx → Ideal .f32) (j : Fin 5000) (c : Fin 80) :
    nextS classes b ninf s (ValueIdx.ix2 j c)
      = if max (s (ValueIdx.ix2 (i c) c)) (-(s (ValueIdx.ix2 (i c) c))) < (⊤ : EReal)
          ∧ (i c = j ∨ KWord.hit (fun k => b (ValueIdx.ix2 (i c) k)) (fun k => b (ValueIdx.ix2 j k)) = 1#1)
        then ⊥ else s (ValueIdx.ix2 j c) := by
  have hp : (fun k => pickedBox (best s) b (ValueIdx.ix2 c k)) = fun k => b (ValueIdx.ix2 (i c) k) :=
    funext fun k => pickedBox_apply (best s) b c (i c) (hi c) k
  have ho : overArr (pickedBox (best s) b) b (interArr (pickedBox (best s) b) b) (ValueIdx.ix2 j c)
      = KWord.hit (fun k => b (ValueIdx.ix2 (i c) k)) (fun k => b (ValueIdx.ix2 j k)) := by
    rw [overArr_apply, hp]; rfl
  have e : nextS classes b ninf s (ValueIdx.ix2 j c)
      = Scalar.select (perClass (finiteAt (picked (best s) classes s)) (ValueIdx.ix2 j c))
        (Host.scatter sd (fun _ b => b)
          (select (overArr (pickedBox (best s) b) b (interArr (pickedBox (best s) b) b)) (broadcastInDim S5000x80 ![] bcast_S_S5000x80 ninf) s)
          (pairs (best s) classes) (broadcastInDim S80 ![] bcast_S_S80 ninf) (ValueIdx.ix2 j c))
        (s (ValueIdx.ix2 j c)) := rfl
  rw [e, finite_apply s i hi, scatter_pair _ _ _ i (pairs0 s i hi) (pairs1 s)]
  have e2 : select (overArr (pickedBox (best s) b) b (interArr (pickedBox (best s) b) b)) (broadcastInDim S5000x80 ![] bcast_S_S5000x80 ninf) s (ValueIdx.ix2 j c)
      = Scalar.select (KWord.hit (fun k => b (ValueIdx.ix2 (i c) k)) (fun k => b (ValueIdx.ix2 j k))) (⊥ : EReal) (s (ValueIdx.ix2 j c)) := by
    rw [← ho, ← bits_ninf]; rfl
  have e3 : broadcastInDim S80 ![] bcast_S_S80 ninf (ValueIdx.ix1 c) = (⊥ : EReal) := by
    rw [← bits_ninf]; rfl
  rw [e2, e3]
  generalize KWord.hit (F := Ideal) _ _ = w
  by_cases hf : max (s (ValueIdx.ix2 (i c) c)) (-(s (ValueIdx.ix2 (i c) c))) < (⊤ : EReal)
  · simp only [hf, decide_true, true_and]
    by_cases hj : i c = j
    · simp [hj, Scalar.select]
    · simp [hj, Scalar.select]
  · simp only [hf, decide_false, false_and, if_false]
    simp [Scalar.select]

theorem nextO_apply (o : S5000x80.Idx → Ideal .f32) (j : Fin 5000) (c : Fin 80) :
    nextO classes s o (ValueIdx.ix2 j c)
      = if max (s (ValueIdx.ix2 (i c) c)) (-(s (ValueIdx.ix2 (i c) c))) < (⊤ : EReal) ∧ i c = j
        then s (ValueIdx.ix2 j c) else o (ValueIdx.ix2 j c) := by
  have e : nextO classes s o (ValueIdx.ix2 j c)
      = Scalar.select (perClass (finiteAt (picked (best s) classes s)) (ValueIdx.ix2 j c))
        (Host.scatter sd (fun _ b => b) o (pairs (best s) classes) (picked (best s) classes s) (ValueIdx.ix2 j c))
        (o (ValueIdx.ix2 j c)) := rfl
  rw [e, finite_apply s i hi, scatter_pair _ _ _ i (pairs0 s i hi) (pairs1 s), picked_apply s i hi]
  by_cases hf : max (s (ValueIdx.ix2 (i c) c)) (-(s (ValueIdx.ix2 (i c) c))) < (⊤ : EReal)
  · simp only [hf, decide_true, true_and]
    by_cases hj : i c = j
    · subst hj; simp [Scalar.select]
    · simp [hj, Scalar.select]
  · simp only [hf, decide_false, false_and, if_false]
    simp [Scalar.select]

end

end Cert.RefStep
-- ==== Proof.Simulate.lean ====
/-
  The kernel's trips and the reference's trips side by side: the same scores and the same outputs, the kernel's laid out by class and
  padded with scores that are gone.
-/
module

public import proofs.«01_k».proof.Proof.KernelBits
public import proofs.«01_k».proof.Proof.RefIdeal

@[expose] public section

set_option maxRecDepth 100000

noncomputable section

namespace Cert.Simulate

open Idealize Idealize.ShloMosaic
open Cert.Pick

/-- A box's column in the padded block. -/
abbrev emb (j : Fin 5000) : Fin 5120 := ⟨j.val, by omega⟩

/-- The padded scores by class against the scores by box. -/
structure Scores (x : Vec Ideal Cert.KernelIdeal.S80x5120 .f32) (y : Cert.ReferenceIdeal.S5000x80.Idx → Ideal .f32) : Prop where
  inside : ∀ (c : Fin 80) (j : Fin 5000), x (ValueIdx.ix2 c (emb j)) = y (ValueIdx.ix2 j c)
  gone : ∀ (c : Fin 80) (j : Fin 5120), 5000 ≤ j.val → x (ValueIdx.ix2 c j) = (⊥ : EReal)
  finite : ∀ (j : Fin 5000) (c : Fin 80), y (ValueIdx.ix2 j c) < (⊤ : EReal)

/-- The padded outputs by class against the outputs by box. -/
def Outs (x : Vec Ideal Cert.KernelIdeal.S80x5120 .f32) (y : Cert.ReferenceIdeal.S5000x80.Idx → Ideal .f32) : Prop :=
  ∀ (c : Fin 80) (j : Fin 5000), x (ValueIdx.ix2 c (emb j)) = y (ValueIdx.ix2 j c)

theorem finite_iff (x : EReal) (h : x < ⊤) : max x (-x) < ⊤ ↔ x ≠ ⊥ := by
  rw [max_lt_iff, lt_top_iff_ne_top (a := -x), Ne, EReal.neg_eq_top_iff]
  exact ⟨fun k => k.2, fun k => ⟨h, k⟩⟩

theorem first_of {x : Vec Ideal Cert.KernelIdeal.S80x5120 .f32} {y : Cert.ReferenceIdeal.S5000x80.Idx → Ideal .f32} (h : Scores x y)
    (c : Fin 80) (i : Fin 5000) (hi : IsFirst (fun j => y (ValueIdx.ix2 j c)) i) : IsFirst (fun j => x (ValueIdx.ix2 c j)) (emb i) := by
  have hlt := i.isLt
  refine ⟨fun j => ?_, fun j e => ?_⟩
  · show x (ValueIdx.ix2 c j) ≤ x (ValueIdx.ix2 c (emb i))
    rw [h.inside]
    by_cases hj : j.val < 5000
    · have := h.inside c ⟨j.val, hj⟩
      rw [show emb ⟨j.val, hj⟩ = j from rfl] at this
      rw [this]
      exact hi.1 ⟨j.val, hj⟩
    · rw [h.gone c j (by omega)]
      exact bot_le
  · by_cases hj : j.val < 5000
    · have e' : x (ValueIdx.ix2 c j) = x (ValueIdx.ix2 c (emb i)) := e
      have := h.inside c ⟨j.val, hj⟩
      rw [show emb ⟨j.val, hj⟩ = j from rfl] at this
      rw [this, h.inside] at e'
      exact Fin.le_def.2 (Fin.le_def.1 (hi.2 ⟨j.val, hj⟩ e'))
    · exact Fin.le_def.2 (by show i.val ≤ j.val; omega)

section
variable (W : Vec Ideal Cert.KernelIdeal.S5120x640 .f32) (H : Fin 5120 → Fin 5120 → BitVec 1)
  (hW : ∀ a q, W (ValueIdx.ix2 a q) = FloatOps.sitofp (F := Ideal) .f32 (KWord.pack fun l hl => H a (KWord.lane l hl q)))
variable (b : Cert.ReferenceIdeal.S5000x4.Idx → Ideal .f32)
  (hH : ∀ i j : Fin 5000, H (emb i) (emb j) = KWord.hit (F := Ideal) (fun k => b (ValueIdx.ix2 i k)) (fun k => b (ValueIdx.ix2 j k)))
include hW hH

theorem step {x o : Vec Ideal Cert.KernelIdeal.S80x5120 .f32} {y p : Cert.ReferenceIdeal.S5000x80.Idx → Ideal .f32} (h : Scores x y) (k : Outs o p) :
    Scores (KLoop.nextS W x) (RefStep.nextS RefStep.classes b RefStep.ninf y) ∧ Outs (KLoop.nextO x o) (RefStep.nextO RefStep.classes y p) := by
  choose i hb hf using fun c => RefStep.best_first y c
  have hk : ∀ c, IsFirst (fun j => x (ValueIdx.ix2 c j)) (emb (i c)) := fun c => first_of h c (i c) (hf c)
  have hM : ∀ c, (max (y (ValueIdx.ix2 (i c) c)) (-(y (ValueIdx.ix2 (i c) c))) < (⊤ : EReal)) ↔ x (ValueIdx.ix2 c (emb (i c))) ≠ (⊥ : EReal) := fun c => by
    rw [h.inside c (i c)]
    exact finite_iff _ (h.finite (i c) c)
  have he : ∀ i j : Fin 5000, emb i = emb j ↔ i = j := fun i j => by rw [Fin.ext_iff, Fin.ext_iff]
  refine ⟨⟨fun c j => ?_, fun c j hj => ?_, fun j c => ?_⟩, fun c j => ?_⟩
  · rw [KStep.nextS_apply W H hW x c (emb (i c)) (hk c), RefStep.nextS_apply y i hb b j c, hH, h.inside c j]
    simp only [hM, he]
  · rw [KStep.nextS_apply W H hW x c (emb (i c)) (hk c), h.gone c j hj, ite_self]
  · rw [RefStep.nextS_apply y i hb b j c]
    split
    · exact bot_lt_top
    · exact h.finite j c
  · rw [KStep.nextO_apply x c (emb (i c)) (hk c), RefStep.nextO_apply y i hb p j c, h.inside c j, k c j]
    simp only [hM, he]

theorem trips {x o : Vec Ideal Cert.KernelIdeal.S80x5120 .f32} {y p : Cert.ReferenceIdeal.S5000x80.Idx → Ideal .f32} (h : Scores x y) (k : Outs o p)
    (n : ℕ) : Scores (KLoop.state W x o n).1 (RefStep.state RefStep.classes b RefStep.ninf y p n).1
      ∧ Outs (KLoop.state W x o n).2 (RefStep.state RefStep.classes b RefStep.ninf y p n).2 := by
  induction n with
  | zero => exact ⟨h, k⟩
  | succ n ih =>
    rw [KLoop.state, RefStep.state]
    generalize KLoop.state W x o n = u at ih ⊢
    generalize RefStep.state RefStep.classes b RefStep.ninf y p n = v at ih ⊢
    obtain ⟨u1, u2⟩ := u
    obtain ⟨v1, v2⟩ := v
    dsimp only at ih ⊢
    exact step W H hW b hH ih.1 ih.2

end

end Cert.Simulate
-- ==== Proof.KernelInit.lean ====
/-
  What the kernel's regions are entered with, at an index: the boxes as columns and as rows, and the scores, from the
  arguments.
-/
module

public import proofs.«01_k».proof.Proof.KernelWords
public import Idealize.ShloMosaic.Lib.KernelVsHost

@[expose] public section

set_option maxRecDepth 16384

noncomputable section

namespace Cert.KInit

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ) (ρ : Dev nD → PrngReg)

/-- The padding value. -/
abbrev zero : FVec F S_ .f32 := sitofp .f32 (constantI S_ 32 0#32)

theorem v2_eq (c : Dev nD) : W6 m ρ c (Proc.devRef .tc main_v2)
    = pad S8x5120 ![0, 0] ![4, 120] ![0, 0]
        (transpose S4x5000 [1, 0] (shapeCast S5000x4 (m ((c : Thread nD τ).loc main_arg0)) shapeCasts_S1x5000x4_S5000x4)
          transposes_S5000x4_S4x5000_1_0) (zero (F := F)) pads_S4x5000_S8x5120_040_01200 h_S_ := by
  rw [W6_of _ _ _ _ (by decide), W5_of _ _ _ _ (by decide), W4_of _ _ _ _ (by decide), W3_of _ _ _ _ (by decide)]
  unfold W2
  after_results
  rfl

theorem v4_eq (c : Dev nD) : W6 m ρ c (Proc.devRef .tc main_v4)
    = pad S5120x8 ![0, 0] ![120, 4] ![0, 0]
        (shapeCast S5000x4 (m ((c : Thread nD τ).loc main_arg0)) shapeCasts_S1x5000x4_S5000x4) (zero (F := F))
        pads_S5000x4_S5120x8_01200_040 h_S_ := by
  rw [W6_of _ _ _ _ (by decide), W5_of _ _ _ _ (by decide)]
  unfold W4
  after_results
  rfl

theorem v7_eq (c : Dev nD) : W6 m ρ c (Proc.devRef .tc main_v7)
    = pad S80x5120 ![0, 0] ![0, 120] ![0, 0]
        (transpose S80x5000 [1, 0] (shapeCast S5000x80 (m ((c : Thread nD τ).loc main_arg1)) shapeCasts_S1x5000x80_S5000x80)
          transposes_S5000x80_S80x5000_1_0) (zero (F := F)) pads_S80x5000_S80x5120_000_01200 h_S_ := by
  unfold W6
  after_results
  rfl

/-- The padding leaves an entry inside where it was. -/
theorem pad_in {α : Type} {a b a' b' : ℕ} (hi : Fin 2 → ℕ) (x : (⟨2, ![a, b]⟩ : Shape).Idx → α) (v : S_.Idx → α)
    (h : (⟨2, ![a, b]⟩ : Shape).Pads ![0, 0] hi ![0, 0] ⟨2, ![a', b']⟩) (hu : 0 < S_.numel) (i : Fin a) (j : Fin b)
    (i' : Fin a') (j' : Fin b') (ei : i'.val = i.val) (ej : j'.val = j.val) :
    pad ⟨2, ![a', b']⟩ ![0, 0] hi ![0, 0] x v h hu (ValueIdx.ix2 i' j') = x (ValueIdx.ix2 i j) := by
  refine pad_apply_of_inside _ _ _ x v h hu _ _ fun ax => ?_
  match ax with
  | ⟨0, _⟩ => show i'.val = 0 + i.val * 1; omega
  | ⟨1, _⟩ => show j'.val = 0 + j.val * 1; omega

/-- Box `j` as a column. -/
theorem v2_apply (c : Dev nD) (k : Fin 4) (j : Fin 5000) :
    W6 m ρ c (Proc.devRef .tc main_v2) (ValueIdx.ix2 (⟨k.val, by omega⟩ : Fin 8) (⟨j.val, by omega⟩ : Fin 5120))
      = m ((c : Thread nD τ).loc main_arg0) (ValueIdx.ix3 (0 : Fin 1) j k) := by
  rw [v2_eq]
  refine (pad_in _ _ _ _ _ k j (⟨k.val, by omega⟩ : Fin 8) (⟨j.val, by omega⟩ : Fin 5120) rfl rfl).trans ?_
  exact (ValueIdx.transpose_ix2_apply _ _ k j).trans (ValueIdx.shapeCast_1ab_ab_apply _ _ j k)

/-- Box `j` as a row. -/
theorem v4_apply (c : Dev nD) (j : Fin 5000) (k : Fin 4) :
    W6 m ρ c (Proc.devRef .tc main_v4) (ValueIdx.ix2 (⟨j.val, by omega⟩ : Fin 5120) (⟨k.val, by omega⟩ : Fin 8))
      = m ((c : Thread nD τ).loc main_arg0) (ValueIdx.ix3 (0 : Fin 1) j k) := by
  rw [v4_eq]
  refine (pad_in _ _ _ _ _ j k (⟨j.val, by omega⟩ : Fin 5120) (⟨k.val, by omega⟩ : Fin 8) rfl rfl).trans ?_
  exact ValueIdx.shapeCast_1ab_ab_apply _ _ j k

/-- Box `j`'s score for class `k`. -/
theorem v7_apply (c : Dev nD) (k : Fin 80) (j : Fin 5000) :
    W6 m ρ c (Proc.devRef .tc main_v7) (ValueIdx.ix2 k (⟨j.val, by omega⟩ : Fin 5120))
      = m ((c : Thread nD τ).loc main_arg1) (ValueIdx.ix3 (0 : Fin 1) j k) := by
  rw [v7_eq]
  refine (pad_in _ _ _ _ _ k j k (⟨j.val, by omega⟩ : Fin 5120) rfl rfl).trans ?_
  exact (ValueIdx.transpose_ix2_apply _ _ k j).trans (ValueIdx.shapeCast_1ab_ab_apply _ _ j k)

/-- A score past the last box is the padding value. -/
theorem v7_pad (c : Dev nD) (k : Fin 80) (j : Fin 5120) (hj : 5000 ≤ j.val) :
    W6 m ρ c (Proc.devRef .tc main_v7) (ValueIdx.ix2 k j) = FloatOps.sitofp .f32 (0#32) := by
  rw [v7_eq]
  refine pad_apply_of_not_inside _ _ _ _ _ _ _ _ (1 : Fin 2) ?_
  show ¬(0 ≤ j.val ∧ (j.val - 0) % 1 = 0 ∧ (j.val - 0) / 1 < 5000)
  omega

end Cert.KInit
-- ==== Proof.KernelRun.lean ====
/-
  The kernel's run with its result: besides the arguments unchanged, the result array is what the fold through @main
  leaves, and that is read back to the loop's recursion.
-/
module

public import proofs.«01_k».proof.Proof.KernelLoop
public import Idealize.ShloMosaic.Lib.Pipeline.ValueKit

@[expose] public section

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the arguments unchanged, the result at the fold's contents, and every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v12) = W9 m ρ c (Proc.devRef .tc main_v12))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨(h c _ (mem_uc main_arg0 (by decide))).trans (W9_main_arg0 m ρ c),
       (h c _ (mem_uc main_arg1 (by decide))).trans (W9_main_arg1 m ρ c),
       h c _ (mem_uc main_v12 (by decide))⟩), funext fun g => hz g (.inr (no_unscoped g.2))⟩)

/-- The result array, from what the loop's region leaves. -/
theorem W9_out (c : Dev nD) : W9 m ρ c (Proc.devRef .tc main_v12)
    = broadcastInDim S1x5000x80 ![1, 2] bcast_S5000x80_S1x5000x80_1_2
        (transpose S5000x80 [1, 0]
          (extractStridedSlice S80x5000 ![0, 0] (W8 m ρ c (Proc.devRef .tc main_v9)) slices_S80x5120_S80x5000_0_0)
          transposes_S80x5000_S5000x80_1_0) := by
  unfold W9
  after_results

/-- What the loop's region leaves: the result of the recursion's 300 trips. -/
theorem W8_out (c : Dev nD) : W8 m ρ c (Proc.devRef .tc main_v9)
    = (KLoop.state (W7 m ρ c (Proc.devRef .tc main_v8)) (k1_pay1 (W6 m ρ c (Proc.devRef .tc main_v7))) k1_pay2 300).2 := by
  refine (W8_arr m ρ c 2).trans ?_
  rw [← W7_of m ρ c main_v7 (by decide +kernel)]
  refine (dat1 (V7 m ρ) c).arrAt_eq_of_after_last 2 t1_0 (by decide +kernel) _ fun j => ?_
  blk_simp
  rw [after1_2]
  unfold outsAt1
  rw [KLoop.block_eq]
  have e1 : win1_1.index t1_0 = ![0, 0] := by decide +kernel
  have e0 : win1_0.index t1_0 = ![0, 0] := by decide +kernel
  have h1 : iblk1 (V7 m ρ) c 1 t1_0 = W7 m ρ c (Proc.devRef .tc main_v8) := by
    blk_ext! [iblk1, e1]
  have h0 : iblk1 (V7 m ρ) c 0 t1_0 = W7 m ρ c (Proc.devRef .tc main_v7) := by
    blk_ext! [iblk1, e0]
  rw [h0, h1]

end Cert.KRun
-- ==== Proof.Values.lean ====
/-
  The kernel's result array and the reference's result array are the same, given the same arguments with scores below infinity.
-/
module

public import proofs.«01_k».proof.Proof.Simulate
public import proofs.«01_k».proof.Proof.KernelInit
public import proofs.«01_k».proof.Proof.KernelRun
public import proofs.«01_k».proof.Pre_scores_below_infinity
public import Idealize.ShloMosaic.Lib.ReduceAll

@[expose] public section

set_option maxRecDepth 100000

noncomputable section

namespace Cert.Values

open Idealize Idealize.ShloMosaic Idealize.ShloMosaic.TcCoe
open Cert.Pick Cert.Simulate

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The kernel's boxes argument. -/
abbrev boxArg : Cert.KernelIdeal.S1x5000x4.Idx → Ideal .f32 := m ((c : Thread Cert.KernelIdeal.nD Cert.KernelIdeal.τ).loc Cert.KernelIdeal.main_arg0)
/-- The kernel's scores argument. -/
abbrev scoreArg : Cert.KernelIdeal.S1x5000x80.Idx → Ideal .f32 := m ((c : Thread Cert.KernelIdeal.nD Cert.KernelIdeal.τ).loc Cert.KernelIdeal.main_arg1)

/-- A score is kept when it is above the threshold. -/
theorem keep_apply (x : Vec Ideal Cert.KernelIdeal.S80x5120 .f32) (i : Cert.KernelIdeal.S80x5120.Idx) :
    Cert.KernelIdeal.Gen.k1_pay1 x i = Scalar.select (Ideal.cmp .ogt (x i) (Ideal.ofBits .f32 0x3D4CCCCD#32)) (x i) (Ideal.ofBits .f32 0xFF800000#32) := by
  unfold Cert.KernelIdeal.Gen.k1_pay1
  rw [shapeCast_self, shapeCast_self]
  rfl

theorem boxes_apply (j : Fin 5000) (k : Fin 4)
    (h0 : m' ((c : Thread Cert.ReferenceIdeal.nD Cert.ReferenceIdeal.τ).loc Cert.ReferenceIdeal.main_arg0) = boxArg m c) :
    RefStep.boxes m' c (ValueIdx.ix2 j k) = boxArg m c (ValueIdx.ix3 (0 : Fin 1) j k) := by
  unfold RefStep.boxes
  rw [h0]
  exact ValueIdx.shapeCast_1ab_ab_apply _ _ j k

theorem scores_apply (j : Fin 5000) (k : Fin 80)
    (h1 : m' ((c : Thread Cert.ReferenceIdeal.nD Cert.ReferenceIdeal.τ).loc Cert.ReferenceIdeal.main_arg1) = scoreArg m c) :
    RefStep.scores0 m' c (ValueIdx.ix2 j k)
      = Scalar.select (Ideal.cmp .ogt (scoreArg m c (ValueIdx.ix3 (0 : Fin 1) j k)) (Ideal.ofBits .f32 0x3D4CCCCD#32))
          (scoreArg m c (ValueIdx.ix3 (0 : Fin 1) j k)) (Ideal.ofBits .f32 0xFF800000#32) := by
  unfold RefStep.scores0
  rw [h1]
  have e := ValueIdx.shapeCast_1ab_ab_apply (scoreArg m c) Cert.ReferenceIdeal.Gen.facts.shapeCasts_S1x5000x80_S5000x80 j k
  rw [← e]
  rfl

theorem start (h1 : m' ((c : Thread Cert.ReferenceIdeal.nD Cert.ReferenceIdeal.τ).loc Cert.ReferenceIdeal.main_arg1) = scoreArg m c)
    (hf : ∀ i, scoreArg m c i < (⊤ : EReal)) :
    Scores (Cert.KernelIdeal.Gen.k1_pay1 (Cert.KernelIdeal.Gen.W6 m ρ c (Proc.devRef .tc Cert.KernelIdeal.main_v7))) (RefStep.scores0 m' c) := by
  refine ⟨fun k j => ?_, fun k j hj => ?_, fun j k => ?_⟩
  · rw [keep_apply, KInit.v7_apply m ρ c k j, scores_apply m m' c j k h1]
  · rw [keep_apply, KInit.v7_pad m ρ c k j hj, bits_ninf]
    have e : FloatOps.sitofp (F := Ideal) .f32 (0#32) = (0 : EReal) := by
      show (((0#32 : BitVec 32).toInt : ℝ) : EReal) = 0
      simp
    rw [e]
    have := not_lt.2 bits_threshold
    simp [Ideal.cmp, Scalar.select, this]
  · rw [scores_apply m m' c j k h1, bits_ninf]
    unfold Scalar.select
    split
    · exact hf _
    · exact bot_lt_top

/-- The overlap test of a row box and a column box as the kernel reads them. -/
def over (a j : Fin 5120) : BitVec 1 :=
  KWord.hit (F := Ideal)
    (fun k => Cert.KernelIdeal.Gen.W6 m ρ c (Proc.devRef .tc Cert.KernelIdeal.main_v4) (ValueIdx.ix2 a (⟨k.val, by omega⟩ : Fin 8)))
    (fun k => Cert.KernelIdeal.Gen.W6 m ρ c (Proc.devRef .tc Cert.KernelIdeal.main_v2) (ValueIdx.ix2 (⟨k.val, by omega⟩ : Fin 8) j))

theorem words_apply (a : Fin 5120) (q : Fin 640) :
    Cert.KernelIdeal.Gen.W7 m ρ c (Proc.devRef .tc Cert.KernelIdeal.main_v8) (ValueIdx.ix2 a q)
      = FloatOps.sitofp (F := Ideal) .f32 (KWord.pack fun l hl => over m ρ c a (KWord.lane l hl q)) := by
  rw [KWord.words_eq m ρ c]
  rfl

theorem over_apply (i j : Fin 5000)
    (h0 : m' ((c : Thread Cert.ReferenceIdeal.nD Cert.ReferenceIdeal.τ).loc Cert.ReferenceIdeal.main_arg0) = boxArg m c) :
    over m ρ c (emb i) (emb j)
      = KWord.hit (F := Ideal) (fun k => RefStep.boxes m' c (ValueIdx.ix2 i k)) (fun k => RefStep.boxes m' c (ValueIdx.ix2 j k)) := by
  have e1 : (fun k : Fin 4 => Cert.KernelIdeal.Gen.W6 m ρ c (Proc.devRef .tc Cert.KernelIdeal.main_v4) (ValueIdx.ix2 (emb i) (⟨k.val, by omega⟩ : Fin 8)))
      = fun k => RefStep.boxes m' c (ValueIdx.ix2 i k) := funext fun k => by
    rw [KInit.v4_apply m ρ c i k, boxes_apply m m' c i k h0]
  have e2 : (fun k : Fin 4 => Cert.KernelIdeal.Gen.W6 m ρ c (Proc.devRef .tc Cert.KernelIdeal.main_v2) (ValueIdx.ix2 (⟨k.val, by omega⟩ : Fin 8) (emb j)))
      = fun k => RefStep.boxes m' c (ValueIdx.ix2 j k) := funext fun k => by
    rw [KInit.v2_apply m ρ c k j, boxes_apply m m' c j k h0]
  unfold over
  rw [e1, e2]

/-- Both programs begin with outputs of zero. -/
theorem outs0 : Outs (Cert.KernelIdeal.Gen.k1_pay2 (F := Ideal))
    (broadcastInDim Cert.ReferenceIdeal.S5000x80 ![] Cert.ReferenceIdeal.Gen.facts.bcast_S_S5000x80 (constant Cert.ReferenceIdeal.S_ .f32 0x00000000#32)) := by
  intro k j
  have e1 : Cert.KernelIdeal.Gen.k1_pay2 (F := Ideal) (ValueIdx.ix2 k (emb j)) = Ideal.ofBits .f32 0x00000000#32 := by
    unfold Cert.KernelIdeal.Gen.k1_pay2
    rfl
  have e2 : broadcastInDim Cert.ReferenceIdeal.S5000x80 ![] Cert.ReferenceIdeal.Gen.facts.bcast_S_S5000x80
      (constant (F := Ideal) Cert.ReferenceIdeal.S_ .f32 0x00000000#32) (ValueIdx.ix2 j k) = Ideal.ofBits .f32 0x00000000#32 := rfl
  exact e1.trans e2.symm

/-- The outputs after any number of trips. -/
theorem outs_at (h0 : m' ((c : Thread Cert.ReferenceIdeal.nD Cert.ReferenceIdeal.τ).loc Cert.ReferenceIdeal.main_arg0) = boxArg m c)
    (h1 : m' ((c : Thread Cert.ReferenceIdeal.nD Cert.ReferenceIdeal.τ).loc Cert.ReferenceIdeal.main_arg1) = scoreArg m c)
    (hf : ∀ i, scoreArg m c i < (⊤ : EReal)) (n : ℕ) :
    Outs (KLoop.state (Cert.KernelIdeal.Gen.W7 m ρ c (Proc.devRef .tc Cert.KernelIdeal.main_v8))
        (Cert.KernelIdeal.Gen.k1_pay1 (Cert.KernelIdeal.Gen.W6 m ρ c (Proc.devRef .tc Cert.KernelIdeal.main_v7))) (Cert.KernelIdeal.Gen.k1_pay2 (F := Ideal)) n).2
      (RefStep.stateOf m' c n).2 :=
  (trips (Cert.KernelIdeal.Gen.W7 m ρ c (Proc.devRef .tc Cert.KernelIdeal.main_v8)) (over m ρ c) (words_apply m ρ c)
    (RefStep.boxes m' c) (fun i j => over_apply m ρ m' c i j h0) (start m ρ m' c h1 hf) outs0 n).2

/-- An output block by class cut to the boxes and turned to outputs by box. -/
theorem turn_apply (x : Vec Ideal Cert.KernelIdeal.S80x5120 .f32) (y : Cert.ReferenceIdeal.S5000x80.Idx → Ideal .f32) (h : Outs x y) :
    transpose Cert.KernelIdeal.S5000x80 [1, 0] (extractStridedSlice Cert.KernelIdeal.S80x5000 ![0, 0] x Cert.KernelIdeal.Gen.facts.slices_S80x5120_S80x5000_0_0)
      Cert.KernelIdeal.Gen.facts.transposes_S80x5000_S5000x80_1_0 = y := by
  funext i
  obtain ⟨j, k, rfl⟩ : ∃ (j : Fin 5000) (k : Fin 80), i = ValueIdx.ix2 j k := ⟨_, _, ValueIdx.eq_ix2 _⟩
  refine Eq.trans ?_ (h k j)
  refine (ValueIdx.transpose_ix2_apply _ _ j k).trans ?_
  exact ValueIdx.slice2_axis1_apply 0 _ _ k j (emb j) (by simp)

/-- The two result arrays are one. -/
theorem same (h0 : m' ((c : Thread Cert.ReferenceIdeal.nD Cert.ReferenceIdeal.τ).loc Cert.ReferenceIdeal.main_arg0) = boxArg m c)
    (h1 : m' ((c : Thread Cert.ReferenceIdeal.nD Cert.ReferenceIdeal.τ).loc Cert.ReferenceIdeal.main_arg1) = scoreArg m c)
    (hf : ∀ i, scoreArg m c i < (⊤ : EReal)) :
    (broadcastInDim Cert.ReferenceIdeal.S1x5000x80 ![1, 2] Cert.ReferenceIdeal.Gen.facts.bcast_S5000x80_S1x5000x80_1_2 (RefStep.stateOf m' c 300).2
        : Cert.ReferenceIdeal.S1x5000x80.Idx → Ideal .f32)
      = Cert.KernelIdeal.Gen.W9 m ρ c (Proc.devRef .tc Cert.KernelIdeal.main_v12) := by
  have t := turn_apply _ _ (outs_at m ρ m' c h0 h1 hf 300)
  rw [KRun.W9_out m ρ c, KRun.W8_out m ρ c, t]

/-- The side conditions that the precondition states. -/
theorem preFacts : Cert.Pre_scores_below_infinity.Facts := ⟨by decide, by decide, by decide⟩

/-- The precondition says that every score is below infinity. -/
theorem below [Cert.Pre_scores_below_infinity.Facts] (a : Cert.KernelIdeal.S1x5000x4.Idx → Ideal .f32) (x : Cert.KernelIdeal.S1x5000x80.Idx → Ideal .f32)
    (h : Cert.Pre_scores_below_infinity.fn (F := Ideal) a x = fun _ => 1#1) (i : Cert.KernelIdeal.S1x5000x80.Idx) : x i < (⊤ : EReal) := by
  haveI : Subsingleton Cert.Pre_scores_below_infinity.S_.Idx := ⟨fun _ _ => funext fun b => b.elim0⟩
  have e := Host.reduce_andi_all _ _ _ _ ValueIdx.ix0 (congrFun h ValueIdx.ix0) i
  have e' : Ideal.cmp .olt (x i) (Ideal.ofBits .f32 0x7F800000#32) = 1#1 := e
  rw [bits_pinf] at e'
  by_contra hn
  simp [Ideal.cmp, hn] at e'

end Cert.Values
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := by
  refine ⟨Cert.Kernel.Gen.facts, Cert.KernelIdeal.Gen.facts, Cert.ReferenceIdeal.Gen.facts, Cert.Values.preFacts, ?_, ?_, ?_, ?_, ?_, trivial, ?_⟩
  · intro m g _
    exact Cert.Kernel.Gen.frame m g
  · intro m g _
    exact Cert.KernelIdeal.Gen.frame m g
  · intro m g _
    exact Cert.KernelIdeal.Gen.frame m g
  · intro m g _
    exact (θ_run _ _ _).mono (fun r h => ⟨fun c => (h.1 c).2, h.2⟩) (Cert.RefStep.run m g)
  · intro m g _
    exact (θ_run _ _ _).mono (fun r h => ⟨fun c => (h.1 c).2, h.2⟩) (Cert.RefStep.run m g)
  · intro m g m' g' hp ha
    refine ⟨fun c => Cert.KernelIdeal.Gen.W9 m g c (Proc.devRef .tc Cert.KernelIdeal.main_v12), ?_, ?_⟩
    · exact (θ_run _ _ _).mono (fun r h c => ⟨(h.1 c).2.2, (h.1 c).1, (h.1 c).2.1⟩) (Cert.KRun.run m g)
    · refine (θ_run _ _ _).mono (fun r h c => ⟨(h.1 c).1.trans ?_, (h.1 c).2⟩) (Cert.RefStep.run m' g')
      haveI := Cert.Values.preFacts
      exact Cert.Values.same m g m' c (ha c).1 (ha c).2 (Cert.Values.below _ _ (hp c))

end Cert.Proof

end
